-- ==== Defs.lean ====
def Pre_Kernel [hPre_chords_binary : Cert.Pre_chords_binary.Facts] (m : (ℓ : Loc Cert.Kernel.nD Cert.Kernel.τ Cert.Kernel.sig) → Buf (Elt Bits) ℓ) : Prop :=
  ∀ c : Dev Cert.Kernel.nD,
    (Cert.Pre_chords_binary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_chords_binary : Cert.Pre_chords_binary.Facts] (m : (ℓ : Loc Cert.KernelIdeal.nD Cert.KernelIdeal.τ Cert.KernelIdeal.sig) → Buf (Elt Ideal) ℓ) : Prop :=
  ∀ c : Dev Cert.KernelIdeal.nD,
    (Cert.Pre_chords_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chords_binary [hPre_chords_binary : Cert.Pre_chords_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chords_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_chords_binary : Cert.Pre_chords_binary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_chords_binary : Cert.Pre_chords_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_chords_binary [hReferenceIdeal : Cert.ReferenceIdeal.Facts] [hPre_chords_binary : Cert.Pre_chords_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chords_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_chords_binary : Cert.Pre_chords_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_chords_binary : Cert.Pre_chords_binary.Facts),
    quiescent_Kernel (hKernel := hKernel) (hPre_chords_binary := hPre_chords_binary)
    ∧ quiescent_KernelIdeal (hKernelIdeal := hKernelIdeal) (hPre_chords_binary := hPre_chords_binary)
    ∧ quiescent_ReferenceIdeal (hReferenceIdeal := hReferenceIdeal)
    ∧ quiescent_ReferenceIdeal_pre_chords_binary (hReferenceIdeal := hReferenceIdeal) (hPre_chords_binary := hPre_chords_binary)
    ∧ preserves_Kernel_KernelIdeal
    ∧ algebraic_KernelIdeal_ReferenceIdeal (hKernelIdeal := hKernelIdeal) (hReferenceIdeal := hReferenceIdeal) (hPre_chords_binary := hPre_chords_binary)
-- ==== Pre_chords_binary.lean ====
abbrev S8x2048x512 : Shape := ⟨3, ![8, 2048, 512]⟩
abbrev S8x2048 : Shape := ⟨2, ![8, 2048]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : FVec F S8x2048x512 .f32) (main_arg1 : IVec S8x2048 32) (main_arg2 : FVec F S512x2048 .f32) (main_arg3 : FVec F S2048 .f32) (main_arg4 : FVec F S2048x512 .f32) (main_arg5 : FVec F S512 .f32) (main_arg6 : FVec F S512 .f32) (main_arg7 : FVec F S512 .f32) : IVec S_ 1 :=
  let main_c : IVec S_ 32 := constantI S_ 32 0#32
  let main_v0 : IVec S8x2048 32 := broadcastInDim S8x2048 ![] bcast_S_S8x2048 main_c
  let main_v1 : IVec S8x2048 1 := cmpi .sge main_arg1 main_v0
  let main_c_0 : IVec S_ 32 := constantI S_ 32 1#32
  let main_v2 : IVec S8x2048 32 := broadcastInDim S8x2048 ![] bcast_S_S8x2048 main_c_0
  let main_v3 : IVec S8x2048 1 := cmpi .sle main_arg1 main_v2
  let main_v4 : IVec S8x2048 1 := andi main_v1 main_v3
  let main_c_1 : IVec S_ 1 := constantI S_ 1 1#1
  let main_v5 : IVec S_ 1 := (fun x v => Host.reduce IntOp.andi x v reducesTo_S8x2048_S_d0_1 h_S_) main_v4 main_c_1
  main_v5
-- ==== Kernel.lean ====
abbrev S8x2048x512 : Shape := ⟨3, ![8, 2048, 512]⟩
abbrev S8x2048 : Shape := ⟨2, ![8, 2048]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S8x2048x1 : Shape := ⟨3, ![8, 2048, 1]⟩
abbrev S1x2048 : Shape := ⟨2, ![1, 2048]⟩
abbrev S1x512 : Shape := ⟨2, ![1, 512]⟩
abbrev S1x2048x1 : Shape := ⟨3, ![1, 2048, 1]⟩
abbrev S1x2048x512 : Shape := ⟨3, ![1, 2048, 512]⟩
abbrev S256x512 : Shape := ⟨2, ![256, 512]⟩
abbrev S256x1 : Shape := ⟨2, ![256, 1]⟩
abbrev S2048x1 : Shape := ⟨2, ![2048, 1]⟩
abbrev S1x1 : Shape := ⟨2, ![1, 1]⟩
abbrev S2047x1 : Shape := ⟨2, ![2047, 1]⟩
abbrev S2x1 : Shape := ⟨2, ![2, 1]⟩
abbrev S2046x1 : Shape := ⟨2, ![2046, 1]⟩
abbrev S4x1 : Shape := ⟨2, ![4, 1]⟩
abbrev S2044x1 : Shape := ⟨2, ![2044, 1]⟩
abbrev S8x1 : Shape := ⟨2, ![8, 1]⟩
abbrev S2040x1 : Shape := ⟨2, ![2040, 1]⟩
abbrev S16x1 : Shape := ⟨2, ![16, 1]⟩
abbrev S2032x1 : Shape := ⟨2, ![2032, 1]⟩
abbrev S32x1 : Shape := ⟨2, ![32, 1]⟩
abbrev S2016x1 : Shape := ⟨2, ![2016, 1]⟩
abbrev S64x1 : Shape := ⟨2, ![64, 1]⟩
abbrev S1984x1 : Shape := ⟨2, ![1984, 1]⟩
abbrev S128x1 : Shape := ⟨2, ![128, 1]⟩
abbrev S1920x1 : Shape := ⟨2, ![1920, 1]⟩
abbrev S1792x1 : Shape := ⟨2, ![1792, 1]⟩
abbrev S512x1 : Shape := ⟨2, ![512, 1]⟩
abbrev S1536x1 : Shape := ⟨2, ![1536, 1]⟩
abbrev S1024x1 : Shape := ⟨2, ![1024, 1]⟩
abbrev S512x256 : Shape := ⟨2, ![512, 256]⟩
abbrev S512x512 : Shape := ⟨2, ![512, 512]⟩
abbrev S256x2048 : Shape := ⟨2, ![256, 2048]⟩
abbrev S256 : Shape := ⟨1, ![256]⟩
abbrev S1x256x512 : Shape := ⟨3, ![1, 256, 512]⟩
abbrev S16384x512 : Shape := ⟨2, ![16384, 512]⟩
abbrev S16384 : Shape := ⟨1, ![16384]⟩
abbrev S64 : Shape := ⟨1, ![64]⟩
abbrev S64x512 : Shape := ⟨2, ![64, 512]⟩
abbrev S_ : Shape := ⟨0, ![]⟩
abbrev S64x128 : Shape := ⟨2, ![64, 128]⟩
abbrev S16384x128 : Shape := ⟨2, ![16384, 128]⟩

abbrev nBuf : Table → Nat
  | .hbm => 21
  | .local .tc .vmem => 16
  | .local .scVector .vmem => 2
  | _ => 0

abbrev bufTy : (tb : Table) → Fin (nBuf tb) → BufTy
  | .hbm, ⟨0, _⟩ => ⟨S8x2048x512, .f32⟩
  | .hbm, ⟨1, _⟩ => ⟨S8x2048, .i32⟩
  | .hbm, ⟨2, _⟩ => ⟨S512x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S8x2048x1, .i32⟩
  | .hbm, ⟨9, _⟩ => ⟨S512x2048, .bf16⟩
  | .hbm, ⟨10, _⟩ => ⟨S2048x512, .bf16⟩
  | .hbm, ⟨11, _⟩ => ⟨S1x2048, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S8x2048x512, .f32⟩
  | .hbm, ⟨16, _⟩ => ⟨S8x2048x1, .i32⟩
  | .hbm, ⟨17, _⟩ => ⟨S16384x512, .f32⟩
  | .hbm, ⟨18, _⟩ => ⟨S16384, .i32⟩
  | .hbm, ⟨19, _⟩ => ⟨S16384x512, .f32⟩
  | .hbm, ⟨20, _⟩ => ⟨S8x2048x512, .f32⟩
  | .local .tc .vmem, ⟨0, _⟩ => ⟨S1x2048x1, .i32⟩
  | .local .tc .vmem, ⟨1, _⟩ => ⟨S1x2048x1, .i32⟩
  | .local .tc .vmem, ⟨2, _⟩ => ⟨S1x2048x512, .f32⟩
  | .local .tc .vmem, ⟨3, _⟩ => ⟨S1x2048x512, .f32⟩
  | .local .tc .vmem, ⟨4, _⟩ => ⟨S512x2048, .bf16⟩
  | .local .tc .vmem, ⟨5, _⟩ => ⟨S1x2048, .f32⟩
  | .local .tc .vmem, ⟨6, _⟩ => ⟨S2048x512, .bf16⟩
  | .local .tc .vmem, ⟨7, _⟩ => ⟨S1x512, .f32⟩
  | .local .tc .vmem, ⟨8, _⟩ => ⟨S1x512, .f32⟩
  | .local .tc .vmem, ⟨9, _⟩ => ⟨S1x512, .f32⟩
  | .local .tc .vmem, ⟨10, _⟩ => ⟨S1x2048x512, .f32⟩
  | .local .tc .vmem, ⟨11, _⟩ => ⟨S1x2048x512, .f32⟩
  | .local .tc .vmem, ⟨12, _⟩ => ⟨S1x2048x1, .i32⟩
  | .local .tc .vmem, ⟨13, _⟩ => ⟨S1x2048x1, .i32⟩
  | .local .tc .vmem, ⟨14, _⟩ => ⟨S256x512, .f32⟩
  | .local .tc .vmem, ⟨15, _⟩ => ⟨S256x1, .f32⟩
  | .local .scVector .vmem, ⟨0, _⟩ => ⟨S64, .i32⟩
  | .local .scVector .vmem, ⟨1, _⟩ => ⟨S64x512, .f32⟩
  | _, _ => ⟨S8x2048x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v8_scv : Ref sig .scVector := ⟨.hbm, 17, rfl⟩
abbrev main_v9_scv : Ref sig .scVector := ⟨.hbm, 18, rfl⟩
abbrev main_v10_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c64_i32 : BitVec 32 := 64#32
  let v4 : BitVec 32 := Scalar.muli v3 c64_i32
  ![v4.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let v3 : BitVec 32 := Scalar.addi v2 c0_i32
  let c64_i32 : BitVec 32 := 64#32
  let v4 : BitVec 32 := Scalar.muli v3 c64_i32
  let c0_i32_268_r1 : BitVec 32 := 0#32
  ![v4.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2048x512 : Shape := ⟨3, ![8, 2048, 512]⟩
abbrev S8x2048 : Shape := ⟨2, ![8, 2048]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S_ : Shape := ⟨0, ![]⟩
abbrev S8x1 : Shape := ⟨2, ![8, 1]⟩
abbrev S8 : Shape := ⟨1, ![8]⟩
abbrev S16384 : Shape := ⟨1, ![16384]⟩
abbrev S16384x512 : Shape := ⟨2, ![16384, 512]⟩
abbrev S16384x1 : Shape := ⟨2, ![16384, 1]⟩
abbrev S1 : Shape := ⟨1, ![1]⟩
abbrev S1x1 : Shape := ⟨2, ![1, 1]⟩
abbrev S8x2048x2048 : Shape := ⟨3, ![8, 2048, 2048]⟩
abbrev S1x1x2048 : Shape := ⟨3, ![1, 1, 2048]⟩
abbrev S1x1x512 : Shape := ⟨3, ![1, 1, 512]⟩
abbrev S8x2048x1 : Shape := ⟨3, ![8, 2048, 1]⟩

abbrev nBuf : Space → Nat
  | .hbm => 125
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048, .i32⟩
  | .hbm, ⟨2, _⟩ => ⟨S512x2048, .f32⟩
  | .hbm, ⟨3, _⟩ => ⟨S2048, .f32⟩
  | .hbm, ⟨4, _⟩ => ⟨S2048x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .i32⟩
  | .hbm, ⟨9, _⟩ => ⟨S_, .i32⟩
  | .hbm, ⟨10, _⟩ => ⟨S8x2048, .i32⟩
  | .hbm, ⟨11, _⟩ => ⟨S8x1, .i32⟩
  | .hbm, ⟨12, _⟩ => ⟨S_, .i32⟩
  | .hbm, ⟨13, _⟩ => ⟨S8x1, .i32⟩
  | .hbm, ⟨14, _⟩ => ⟨S8x1, .i1⟩
  | .hbm, ⟨15, _⟩ => ⟨S_, .i32⟩
  | .hbm, ⟨16, _⟩ => ⟨S8x2048, .i32⟩
  | .hbm, ⟨17, _⟩ => ⟨S8x2048, .i32⟩
  | .hbm, ⟨18, _⟩ => ⟨S8x2048, .i1⟩
  | .hbm, ⟨19, _⟩ => ⟨S8x2048, .i32⟩
  | .hbm, ⟨20, _⟩ => ⟨S8, .i32⟩
  | .hbm, ⟨21, _⟩ => ⟨S8x1, .i32⟩
  | .hbm, ⟨22, _⟩ => ⟨S_, .i32⟩
  | .hbm, ⟨23, _⟩ => ⟨S8x1, .i32⟩
  | .hbm, ⟨24, _⟩ => ⟨S8x1, .i32⟩
  | .hbm, ⟨25, _⟩ => ⟨S8x2048, .i32⟩
  | .hbm, ⟨26, _⟩ => ⟨S8x2048, .i32⟩
  | .hbm, ⟨27, _⟩ => ⟨S16384, .i32⟩
  | .hbm, ⟨28, _⟩ => ⟨S16384x512, .f32⟩
  | .hbm, ⟨29, _⟩ => ⟨S_, .f32⟩
  | .hbm, ⟨30, _⟩ => ⟨S16384x512, .f32⟩
  | .hbm, ⟨31, _⟩ => ⟨S16384x1, .i32⟩
  | .hbm, ⟨32, _⟩ => ⟨S16384x512, .f32⟩
  | .hbm, ⟨33, _⟩ => ⟨S_, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384x1, .i32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S16384x512, .f32⟩
  | .hbm, ⟨44, _⟩ => ⟨S16384x512, .f32⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S1, .i32⟩
  | .hbm, ⟨54, _⟩ => ⟨S_, .i32⟩
  | .hbm, ⟨55, _⟩ => ⟨S16384x1, .i32⟩
  | .hbm, ⟨56, _⟩ => ⟨S16384x1, .i1⟩
  | .hbm, ⟨57, _⟩ => ⟨S1x1, .i32⟩
  | .hbm, ⟨58, _⟩ => ⟨S16384x1, .i32⟩
  | .hbm, ⟨59, _⟩ => ⟨S16384x1, .i1⟩
  | .hbm, ⟨60, _⟩ => ⟨S16384x1, .i1⟩
  | .hbm, ⟨61, _⟩ => ⟨S_, .i1⟩
  | .hbm, ⟨62, _⟩ => ⟨S16384, .i1⟩
  | .hbm, ⟨63, _⟩ => ⟨S16384x512, .f32⟩
  | .hbm, ⟨64, _⟩ => ⟨S16384x512, .i1⟩
  | .hbm, ⟨65, _⟩ => ⟨S_, .f32⟩
  | .hbm, ⟨66, _⟩ => ⟨S16384x512, .f32⟩
  | .hbm, ⟨67, _⟩ => ⟨S16384x512, .f32⟩
  | .hbm, ⟨68, _⟩ => ⟨S8x2048x512, .f32⟩
  | .hbm, ⟨69, _⟩ => ⟨S8x2048x2048, .f32⟩
  | .hbm, ⟨70, _⟩ => ⟨S1x1x2048, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048x2048, .f32⟩
  | .hbm, ⟨75, _⟩ => ⟨S8x2048x2048, .f32⟩
  | .hbm, ⟨76, _⟩ => ⟨S8x2048x512, .f32⟩
  | .hbm, ⟨77, _⟩ => ⟨S1x1x512, .f32⟩
  | .hbm, ⟨78, _⟩ => ⟨S8x2048x512, .f32⟩
  | .hbm, ⟨79, _⟩ => ⟨S8x2048x512, .f32⟩
  | .hbm, ⟨80, _⟩ => ⟨S8x2048x512, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S_, .i32⟩
  | .hbm, ⟨88, _⟩ => ⟨S_, .f32⟩
  | .hbm, ⟨89, _⟩ => ⟨S8x2048, .f32⟩
  | .hbm, ⟨90, _⟩ => ⟨S8x2048x1, .f32⟩
  | .hbm, ⟨91, _⟩ => ⟨S_, .f32⟩
  | .hbm, ⟨92, _⟩ => ⟨S8x2048x1, .f32⟩
  | .hbm, ⟨93, _⟩ => ⟨S8x2048x1, .f32⟩
  | .hbm, ⟨94, _⟩ => ⟨S8x2048x512, .f32⟩
  | .hbm, ⟨95, _⟩ => ⟨S8x2048x512, .f32⟩
  | .hbm, ⟨96, _⟩ => ⟨S8x2048x512, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8x2048, .f32⟩
  | .hbm, ⟨102, _⟩ => ⟨S8x2048x1, .f32⟩
  | .hbm, ⟨103, _⟩ => ⟨S8x2048x1, .f32⟩
  | .hbm, ⟨104, _⟩ => ⟨S8x2048x1, .f32⟩
  | .hbm, ⟨105, _⟩ => ⟨S_, .f32⟩
  | .hbm, ⟨106, _⟩ => ⟨S_, .i1⟩
  | .hbm, ⟨107, _⟩ => ⟨S_, .f32⟩
  | .hbm, ⟨108, _⟩ => ⟨S_, .f32⟩
  | .hbm, ⟨109, _⟩ => ⟨S8x2048x1, .f32⟩
  | .hbm, ⟨110, _⟩ => ⟨S8x2048x1, .f32⟩
  | .hbm, ⟨111, _⟩ => ⟨S8x2048x512, .f32⟩
  | .hbm, ⟨112, _⟩ => ⟨S8x2048x512, .f32⟩
  | .hbm, ⟨113, _⟩ => ⟨S1x1x512, .f32⟩
  | .hbm, ⟨114, _⟩ => ⟨S8x2048x512, .f32⟩
  | .hbm, ⟨115, _⟩ => ⟨S8x2048x512, .f32⟩
  | .hbm, ⟨116, _⟩ => ⟨S_, .f32⟩
  | .hbm, ⟨117, _⟩ => ⟨S8x2048x1, .f32⟩
  | .hbm, ⟨118, _⟩ => ⟨S8x2048x1, .f32⟩
  | .hbm, ⟨119, _⟩ => ⟨S8x2048x1, .f32⟩
  | .hbm, ⟨120, _⟩ => ⟨S8x2048x512, .f32⟩
  | .hbm, ⟨121, _⟩ => ⟨S8x2048x512, .f32⟩
  | .hbm, ⟨122, _⟩ => ⟨S1x1x512, .f32⟩
  | .hbm, ⟨123, _⟩ => ⟨S8x2048x512, .f32⟩
  | .hbm, ⟨124, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_c : Ref sig .tc := ⟨.hbm, 8, rfl⟩
abbrev main_call0_call0_v0 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_call2_cst : Ref sig .tc := ⟨.hbm, 65, rfl⟩
abbrev main_call2_v15 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_5 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_v41 : Ref sig .tc := ⟨.hbm, 83, rfl⟩
abbrev main_cst_7 : Ref sig .tc := ⟨.hbm, 84, rfl⟩
abbrev main_v42 : Ref sig .tc := ⟨.hbm, 85, rfl⟩
abbrev main_v43 : Ref sig .tc := ⟨.hbm, 86, rfl⟩
abbrev main_c_8 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_v12 : Ref sig .tc := ⟨.hbm, 104, rfl⟩
abbrev main_call3_cst_3 : Ref sig .tc := ⟨.hbm, 105, rfl⟩
abbrev main_call3_v13 : Ref sig .tc := ⟨.hbm, 106, rfl⟩
abbrev main_call3_cst_4 : Ref sig .tc := ⟨.hbm, 107, rfl⟩
abbrev main_call3_call0_v0 : Ref sig .tc := ⟨.hbm, 108, rfl⟩
abbrev main_call3_call0_v1 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_9 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩

abbrev nD : Nat := 1
abbrev τ : Topo := Topo.v7x

variable {F : FTy → Type} [FloatOps F]
-- ==== Proof.Setup.lean ====
/-
  The launch of `KernelIdeal` as the library's launch theorem sees it: the program's one SparseCore call, the resource
  algebra (the call's handshakes, the TensorCore pipeline's rounds, the transfers' counters), the shared arrays by name.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

abbrev MM (F : FTy → Type) := MT nD τ sig (HIx 1) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by
  unfold EP; infer_instance

/-! ## The arrays between the two calls -/

/-- The table of segment rows, the row numbers, the gathered rows: `v8`, `v9`, `v10` of @main. -/
abbrev xLoc (d : Dev nD) : Loc nD τ sig := (SparseCore.T d).loc main_v8
abbrev iLoc (d : Dev nD) : Loc nD τ sig := (SparseCore.T d).loc main_v9
abbrev oLoc (d : Dev nD) : Loc nD τ sig := (SparseCore.T d).loc main_v10

theorem odiv : 256 ∣ S16384x512.size 0 := ⟨64, rfl⟩
/-- Chunk `r` of the gathered rows: 64 of the 16384, all their columns. -/
abbrev ochunk (r : Fin 256) : Rect S16384x512 := Rect.part (s := S16384x512) (a₀ := 0) odiv r
abbrev oset (r : Fin 256) : Finset S16384x512.Idx := (ochunk r).set

end Cert.Proof.Seg

end
-- ==== Proof.FusedProg.lean ====
/-
  The fused kernel's body written over a symbolic tile and a symbolic chunk: one chunk, one tile, eight tiles. The
  body is this by definition.
-/
module

public import proofs.«01_k».proof.Proof.Setup

@[expose] public section

set_option maxRecDepth 16384

noncomputable section

namespace Cert.Proof.Seg

open Cert.KernelIdeal Cert.KernelIdeal.Gen
open Idealize.ShloMosaic
open Idealize.SL Idealize.SL.Sem

variable {F : FTy → Type} [FloatOps F]

/-! ## The values of one chunk and of one tile -/

theorem slices_first (c : Fin 4) : S2048x1.Slices ![512 * c.val, 0] S1x1 := by revert c; decide
theorem slices_last (c : Fin 4) : S2048x1.Slices ![512 * c.val + 511, 0] S1x1 := by revert c; decide
theorem slices_ids (c : Fin 4) : S2048x1.Slices ![512 * c.val, 0] S512x1 := by revert c; decide
theorem slices_rows (c : Fin 4) : S2048x512.Slices ![512 * c.val, 0] S512x512 := by revert c; decide
theorem inb_tile (t : Fin 8) : ∀ a, (![0, 256 * t.val, 0] : Fin 3 → Nat) a + S1x256x512.size a ≤ S1x2048x512.size a := by revert t; decide

/-- The first and the last segment number of chunk `c`. -/
def firstId (v48 : IVec S2048x1 32) (c : Fin 4) : BitVec 32 :=
  extractAt ![0, 0] (extractStridedSlice S1x1 ![512 * c.val, 0] v48 (slices_first c)) inpos_S1x1_p0_0
def lastId (v48 : IVec S2048x1 32) (c : Fin 4) : BitVec 32 :=
  extractAt ![0, 0] (extractStridedSlice S1x1 ![512 * c.val + 511, 0] v48 (slices_last c)) inpos_S1x1_p0_0

/-- Tile `t`'s first segment number. -/
abbrev lo (t : Fin 8) : BitVec 32 := BitVec.ofNat 32 (256 * t.val)
abbrev hi (t : Fin 8) : BitVec 32 := BitVec.ofNat 32 (256 * t.val + 256)

/-- Chunk `c` may hold rows of tile `t`. -/
abbrev meets (t : Fin 8) (v96 v98 l : BitVec 32) : BitVec 1 :=
  Scalar.cmpi .ne (Scalar.extui (Scalar.andi (Scalar.cmpi .sge v98 l) (Scalar.cmpi .slt v96 (hi t)))) 0#32

/-- Row `i` of chunk `c` is of segment `256 t + j`: one or zero. -/
def oneh (t : Fin 8) (c : Fin 4) (v48 : IVec S2048x1 32) (v62 : IVec S512x256 32) : FVec F S512x256 .bf16 :=
  have v185 : IVec S512x1 32 := extractStridedSlice S512x1 ![512 * c.val, 0] v48 (slices_ids c)
  have v186 : IVec S512x256 32 := broadcast S512x256 (lo t)
  have v187 : IVec S512x256 32 := addi v62 v186
  have v188 : IVec S512x256 32 := broadcastTo S512x256 v185 broadcasts_S512x1_S512x256
  have v189 : IVec S512x256 1 := cmpi .eq v188 v187
  have v190 : IVec S512x256 32 := extui 32 v189 natLt_1_32
  have v191 : FVec F S512x256 .f32 := sitofp .f32 v190
  have v192 : FVec F S512x256 .bf16 := truncf .bf16 v191 bitsLt_bf16_f32
  v192

/-- The rows counted, and summed, with chunk `c`'s. -/
def cntStep (t : Fin 8) (c : Fin 4) (v48 : IVec S2048x1 32) (v61 : FVec F S512x1 .bf16) (v62 : IVec S512x256 32) (v193 : Vec F S256x1 .f32) : FVec F S256x1 .f32 :=
  have cst : FVec F S256x1 .f32 := constant S256x1 .f32 0x00000000#32
  have v194 : FVec F S256x1 .f32 := matmul dot_S512x256_S512x1_S256x1_0_0_1_1_n_n none (oneh (F := F) t c v48 v62) v61 cst
  have v195 : FVec F S256x1 .f32 := addf v193 v194
  shapeCast S256x1 v195 shapeCasts_S256x1_S256x1
def segStep (t : Fin 8) (c : Fin 4) (v48 : IVec S2048x1 32) (v60 : FVec F S2048x512 .bf16) (v62 : IVec S512x256 32) (v199 : Vec F S256x512 .f32) : FVec F S256x512 .f32 :=
  have v200 : FVec F S512x512 .bf16 := extractStridedSlice S512x512 ![512 * c.val, 0] v60 (slices_rows c)
  have cst : FVec F S256x512 .f32 := constant S256x512 .f32 0x00000000#32
  have v201 : FVec F S256x512 .f32 := matmul dot_S512x256_S512x512_S256x512_0_0_1_1_n_n none (oneh (F := F) t c v48 v62) v200 cst
  have v202 : FVec F S256x512 .f32 := addf v199 v201
  shapeCast S256x512 v202 shapeCasts_S256x512_S256x512

/-! ## The programs -/

section Progs

variable (i : grid0.Coords) (arg1 : Memref sig .tc .vmem S1x2048x1 .i32) (harg1 : arg1.IsWhole) (arg2 : Memref sig .tc .vmem S1x2048x512 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x2048x512 .f32) (harg9 : arg9.IsWhole) (arg10 : Memref sig .tc .vmem S1x2048x1 .i32) (harg10 : arg10.IsWhole) (arg11 : Memref sig .tc .vmem S256x512 .f32) (harg11 : arg11.IsWhole) (arg12 : Memref sig .tc .vmem S256x1 .f32) (harg12 : arg12.IsWhole)

variable (v48 : IVec S2048x1 32) (v60 : FVec F S2048x512 .bf16) (v61 : FVec F S512x1 .bf16) (v62 : IVec S512x256 32)

/-- Chunk `c` for tile `t`, when it may hold rows of it, then `k`. -/
def chunkIf {α : Type} (t : Fin 8) (c : Fin 4) (v96 v98 l : BitVec 32) (k : Unit → Prog (TpuEff nD τ sig (Elt F) Λ₀ .tc) α) : Prog (TpuEff nD τ sig (Elt F) Λ₀ .tc) α :=
  if meets t v96 v98 l = 1#1 then do
    let v193 : Vec F S256x1 .f32 ← Prog.lift (.load arg12 (Rect.unit (s := S256x1) ![0, 0] S256x1.size inb_S256x1_S256x1_0_0).toLoadRect (View.loadsAt_vmem h_S256x1))
    let _v196 : Vec F S256x1 .f32 ← Prog.lift (.load arg12 (Rect.unit (s := S256x1) ![0, 0] S256x1.size inb_S256x1_S256x1_0_0).toLoadRect (View.loadsAt_vmem h_S256x1))
    Prog.lift (.store arg12 (Rect.unit (s := S256x1) ![0, 0] S256x1.size inb_S256x1_S256x1_0_0) (cntStep t c v48 v61 v62 v193) Finset.univ (View.stores_vmem_bits_univ h_S256x1 rfl) (.inl rfl))
    let v199 : Vec F S256x512 .f32 ← Prog.lift (.load arg11 (Rect.unit (s := S256x512) ![0, 0] S256x512.size inb_S256x512_S256x512_0_0).toLoadRect (View.loadsAt_vmem h_S256x512))
    let _v203 : Vec F S256x512 .f32 ← Prog.lift (.load arg11 (Rect.unit (s := S256x512) ![0, 0] S256x512.size inb_S256x512_S256x512_0_0).toLoadRect (View.loadsAt_vmem h_S256x512))
    Prog.lift (.store arg11 (Rect.unit (s := S256x512) ![0, 0] S256x512.size inb_S256x512_S256x512_0_0) (segStep t c v48 v60 v62 v199) Finset.univ (View.stores_vmem_bits_univ h_S256x512 rfl) (.inl rfl))
    k ⟨⟩
  else k ⟨⟩

/-- A tile's accumulators zeroed and its first three chunks. -/
def partA (t : Fin 8) : Prog (TpuEff nD τ sig (Elt F) Λ₀ .tc) (Σ' (_ : BitVec 32) (_ : BitVec 32), BitVec 32) := do
  let _v88 : Vec F S256x512 .f32 ← Prog.lift (.load arg11 (Rect.unit (s := S256x512) ![0, 0] S256x512.size inb_S256x512_S256x512_0_0).toLoadRect (View.loadsAt_vmem h_S256x512))
  Prog.lift (.store arg11 (Rect.unit (s := S256x512) ![0, 0] S256x512.size inb_S256x512_S256x512_0_0) (k0_pay4 (F := F)) Finset.univ (View.stores_vmem_bits_univ h_S256x512 rfl) (.inl rfl))
  let _v92 : Vec F S256x1 .f32 ← Prog.lift (.load arg12 (Rect.unit (s := S256x1) ![0, 0] S256x1.size inb_S256x1_S256x1_0_0).toLoadRect (View.loadsAt_vmem h_S256x1))
  Prog.lift (.store arg12 (Rect.unit (s := S256x1) ![0, 0] S256x1.size inb_S256x1_S256x1_0_0) (k0_pay5 (F := F)) Finset.univ (View.stores_vmem_bits_univ h_S256x1 rfl) (.inl rfl))
  chunkIf arg11 arg12 v48 v60 v61 v62 t 0 (firstId v48 0) (lastId v48 0) (lo t) fun _ => do
  chunkIf arg11 arg12 v48 v60 v61 v62 t 1 (firstId v48 1) (lastId v48 1) (lo t) fun _ => do
  chunkIf arg11 arg12 v48 v60 v61 v62 t 2 (firstId v48 2) (lastId v48 2) (lo t) fun _ => do
  pure ⟨firstId v48 3, lastId v48 3, lo t⟩

/-- The last chunk, and the network's output centred. -/
def partB (t : Fin 8) (v123 v125 l : BitVec 32) : Prog (TpuEff nD τ sig (Elt F) Λ₀ .tc) (FVec F S256x512 .f32) := do
  chunkIf arg11 arg12 v48 v60 v61 v62 t 3 v123 v125 l fun _ => do
  let v131 : Vec F S256x512 .f32 ← Prog.lift (.load arg11 (Rect.unit (s := S256x512) ![0, 0] S256x512.size inb_S256x512_S256x512_0_0).toLoadRect (View.loadsAt_vmem h_S256x512))
  let v132 : Vec F S256x1 .f32 ← Prog.lift (.load arg12 (Rect.unit (s := S256x1) ![0, 0] S256x1.size inb_S256x1_S256x1_0_0).toLoadRect (View.loadsAt_vmem h_S256x1))
  let v140 : Vec F S512x2048 .bf16 ← Prog.lift (.load arg3 (Rect.unit (s := S512x2048) ![0, 0] S512x2048.size inb_S512x2048_S512x2048_0_0).toLoadRect (View.loadsAt_vmem h_S512x2048))
  let v143 : Vec F S1x2048 .f32 ← Prog.lift (.load arg4 (Rect.unit (s := S1x2048) ![0, 0] S1x2048.size inb_S1x2048_S1x2048_0_0).toLoadRect (View.loadsAt_vmem h_S1x2048))
  let v150 : Vec F S2048x512 .bf16 ← Prog.lift (.load arg5 (Rect.unit (s := S2048x512) ![0, 0] S2048x512.size inb_S2048x512_S2048x512_0_0).toLoadRect (View.loadsAt_vmem h_S2048x512))
  let v154 : Vec F S1x512 .f32 ← Prog.lift (.load arg6 (Rect.unit (s := S1x512) ![0, 0] S1x512.size inb_S1x512_S1x512_0_0).toLoadRect (View.loadsAt_vmem h_S1x512))
  pure (k0_pay26 v131 v132 v140 v143 v150 v154)

/-- Tile `t`, when it holds a segment, then `k`. -/
def tileIf {α : Type} (t : Fin 8) (b : BitVec 1) (k : Unit → Prog (TpuEff nD τ sig (Elt F) Λ₀ .tc) α) : Prog (TpuEff nD τ sig (Elt F) Λ₀ .tc) α :=
  if Scalar.cmpi .ne (Scalar.extui b : BitVec 32) 0#32 = 1#1 then do
    let ⟨v123, v125, l⟩ : Σ' (_ : BitVec 32) (_ : BitVec 32), BitVec 32 ← partA arg11 arg12 v48 v60 v61 v62 t
    let v163 : FVec F S256x512 .f32 ← partB arg3 arg4 arg5 arg6 arg11 arg12 v48 v60 v61 v62 t v123 v125 l
    let v169 : Vec F S1x512 .f32 ← Prog.lift (.load arg7 (Rect.unit (s := S1x512) ![0, 0] S1x512.size inb_S1x512_S1x512_0_0).toLoadRect (View.loadsAt_vmem h_S1x512))
    let v178 : Vec F S1x512 .f32 ← Prog.lift (.load arg8 (Rect.unit (s := S1x512) ![0, 0] S1x512.size inb_S1x512_S1x512_0_0).toLoadRect (View.loadsAt_vmem h_S1x512))
    let _v182 : Vec F S1x256x512 .f32 ← Prog.lift (.load arg9 (Rect.unit (s := S1x2048x512) ![0, 256 * t.val, 0] S1x256x512.size (inb_tile t)).toLoadRect (View.loadsAt_vmem h_S1x256x512))
    Prog.lift (.store arg9 (Rect.unit (s := S1x2048x512) ![0, 256 * t.val, 0] S1x256x512.size (inb_tile t)) (k0_pay195 v163 v169 v178) Finset.univ (View.stores_vmem_bits_univ h_S1x256x512 rfl) (.inl rfl))
    k ⟨⟩
  else k ⟨⟩

/-- The segment numbers, and tiles 0 to 4. -/
def headProg (arg0 : BitVec 32) (v41 v44 : IVec S2048x1 32) :
    Prog (TpuEff nD τ sig (Elt F) Λ₀ .tc) (Σ' (_ : IVec S2048x1 32) (_ : BitVec 32) (_ : FVec F S2048x512 .bf16) (_ : FVec F S512x1 .bf16) (_ : IVec S512x256 32), BitVec 1) := do
  let _v52 : Vec F S1x2048x1 .i32 ← Prog.lift (.load arg10 (Rect.unit (s := S1x2048x1) ![0, 0, 0] S1x2048x1.size inb_S1x2048x1_S1x2048x1_0_0_0).toLoadRect (View.loadsAt_vmem h_S1x2048x1))
  Prog.lift (.store arg10 (Rect.unit (s := S1x2048x1) ![0, 0, 0] S1x2048x1.size inb_S1x2048x1_S1x2048x1_0_0_0) (k0_pay191 arg0 v41 v44) Finset.univ (View.stores_vmem_bits_univ h_S1x2048x1 rfl) (.inl rfl))
  let v57 : BitVec 32 := Scalar.addi (extractAt ![0, 0] (k0_pay192 v41 v44) inpos_S1x1_p0_0) 1#32
  let v58 : Vec F S1x2048x512 .f32 ← Prog.lift (.load arg2 (Rect.unit (s := S1x2048x512) ![0, 0, 0] S1x2048x512.size inb_S1x2048x512_S1x2048x512_0_0_0).toLoadRect (View.loadsAt_vmem h_S1x2048x512))
  have v62 : IVec S512x256 32 := iota .tc S512x256 32 [1] iota_S512x256_d1_w32
  tileIf arg3 arg4 arg5 arg6 arg7 arg8 arg9 arg11 arg12 (k0_pay190 v41 v44) (k0_pay193 v58) (k0_pay194 (F := F)) v62 0 (Scalar.cmpi .sgt v57 (lo 0)) fun _ => do
  tileIf arg3 arg4 arg5 arg6 arg7 arg8 arg9 arg11 arg12 (k0_pay190 v41 v44) (k0_pay193 v58) (k0_pay194 (F := F)) v62 1 (Scalar.cmpi .sgt v57 (lo 1)) fun _ => do
  tileIf arg3 arg4 arg5 arg6 arg7 arg8 arg9 arg11 arg12 (k0_pay190 v41 v44) (k0_pay193 v58) (k0_pay194 (F := F)) v62 2 (Scalar.cmpi .sgt v57 (lo 2)) fun _ => do
  tileIf arg3 arg4 arg5 arg6 arg7 arg8 arg9 arg11 arg12 (k0_pay190 v41 v44) (k0_pay193 v58) (k0_pay194 (F := F)) v62 3 (Scalar.cmpi .sgt v57 (lo 3)) fun _ => do
  tileIf arg3 arg4 arg5 arg6 arg7 arg8 arg9 arg11 arg12 (k0_pay190 v41 v44) (k0_pay193 v58) (k0_pay194 (F := F)) v62 4 (Scalar.cmpi .sgt v57 (lo 4)) fun _ => do
  pure ⟨k0_pay190 v41 v44, v57, k0_pay193 v58, k0_pay194 (F := F), v62, Scalar.cmpi .sgt v57 (lo 5)⟩

/-- Tiles 5 to 7. -/
def tailProg (r : Σ' (_ : IVec S2048x1 32) (_ : BitVec 32) (_ : FVec F S2048x512 .bf16) (_ : FVec F S512x1 .bf16) (_ : IVec S512x256 32), BitVec 1) :
    Prog (TpuEff nD τ sig (Elt F) Λ₀ .tc) PUnit :=
  match r with
  | ⟨v48, v57, v60, v61, v62, v78⟩ => do
  tileIf arg3 arg4 arg5 arg6 arg7 arg8 arg9 arg11 arg12 v48 v60 v61 v62 5 v78 fun _ => do
  tileIf arg3 arg4 arg5 arg6 arg7 arg8 arg9 arg11 arg12 v48 v60 v61 v62 6 (Scalar.cmpi .sgt v57 (lo 6)) fun _ => do
  tileIf arg3 arg4 arg5 arg6 arg7 arg8 arg9 arg11 arg12 v48 v60 v61 v62 7 (Scalar.cmpi .sgt v57 (lo 7)) fun _ => do
  pure ⟨⟩

/-- The whole body. -/
def fusedProg : Prog (TpuEff nD τ sig (Elt F) Λ₀ .tc) PUnit := do
  let v0 : Vec F S1x2048x1 .i32 ← Prog.lift (.load arg1 (Rect.unit (s := S1x2048x1) ![0, 0, 0] S1x2048x1.size inb_S1x2048x1_S1x2048x1_0_0_0).toLoadRect (View.loadsAt_vmem h_S1x2048x1))
  let r ← headProg arg2 arg3 arg4 arg5 arg6 arg7 arg8 arg9 arg10 arg11 arg12 (BitVec.ofNat 32 (i 0).val) (k0_pay188 v0) (k0_pay189 v0)
  tailProg arg3 arg4 arg5 arg6 arg7 arg8 arg9 arg11 arg12 r

set_option maxRecDepth 65536 in
set_option maxHeartbeats 4000000 in
theorem fused_eq : cc0__fused_body (F := F) i arg1 harg1 arg2 harg2 arg3 harg3 arg4 harg4 arg5 harg5 arg6 harg6 arg7 harg7 arg8 harg8 arg9 harg9 arg10 harg10 arg11 harg11 arg12 harg12
    = fusedProg i arg1 arg2 arg3 arg4 arg5 arg6 arg7 arg8 arg9 arg10 arg11 arg12 := rfl

end Progs

end Cert.Proof.Seg

end
-- ==== Proof.OwnsRules.lean ====
/-
  Loads and stores through a rectangle, the memref's elements held as what the memref reads.
-/
module

public import proofs.«01_k».proof.Proof.Setup

@[expose] public section

noncomputable section

namespace Cert.Proof.Seg

open Idealize.ShloMosaic
open Idealize.SL Idealize.SL.RA Idealize.SL.BI
open scoped Idealize.SL.BI
open Idealize.SL.BI.BIBase Idealize.SL.BI.Laws Idealize.SL.ProofMode Idealize.SL.Sem

section

variable {nD : Nat} {τ : Topo} {sig : RefSig} {Val : EltTy → Type}
variable {Ix : Type} [DecidableEq Ix] {U : Type} [URA U] {Lvl : Type} {Λ : Labels}
variable [Preorder Lvl] (defs : Defs nD τ sig Val Λ) (𝒱 : Variants) (c : Thread nD τ) (bd : Option 𝒱.V)
variable {s : Shape} {e : EltTy} {cs : CoreSpace} (m : Memref sig c.2.kind cs s e)

theorem owns_load (r : Rect s) (hl : m.view.LoadsAt r.toLoadRect) (q : PosShare TreeShare) (X : s.Idx → Val e)
    (Q : (r.shape.Idx → Val e) → sProp (MT nD τ sig Ix Val ℕ U Lvl)) :
    iprop(owns c m q X ∗ (owns c m q X -∗ Q fun i => X (r.emb i)))
      ⊢ wp frame (wpE defs 𝒱 c bd) Set.univ (Prog.lift (.load m r.toLoadRect hl)) Q := by
  unfold owns
  iintro ⟨⟨%f, %hf, H⟩, HQ⟩
  subst hf
  iapply (wp_load_rect (defs := defs) 𝒱 c bd Set.univ (m := m) (r := r) (hl := hl) (k := Prog.ret) (q := q) (f := f) (Q := Q) (View.set_slice_subset _ _)) $$ H
  iintro H
  iapply (le_wp_ret _ _)
  have hr : (m.access r).read Val f = fun i => m.view.read Val f (r.emb i) := rfl
  rw [hr]
  iapply HQ
  iexists f
  isplitr
  · ipureintro; rfl
  · iexact H

theorem owns_store (r : Rect s) (w : r.shape.Idx → Val e) (hx : (m.access r).Stores Finset.univ) (hm : Finset.univ = Finset.univ ∨ ∀ a, r.stride a = 1)
    (X : s.Idx → Val e) (Q : PUnit → sProp (MT nD τ sig Ix Val ℕ U Lvl)) :
    iprop(owns c m fullShare X ∗ (owns c m fullShare (r.overlay X w) -∗ Q ⟨⟩))
      ⊢ wp frame (wpE defs 𝒱 c bd) Set.univ (Prog.lift (.store m r w Finset.univ hx hm)) Q := by
  unfold owns
  iintro ⟨⟨%f, %hf, H⟩, HQ⟩
  subst hf
  iapply (wp_store_writes₀ (defs := defs) 𝒱 c bd Set.univ (m := m) (r := r) (w := w) (hx := hx) (hm := hm) (k := Prog.ret) (f := f) (Q := Q) (View.set_slice_subset _ _)) $$ H
  iintro H
  iapply (le_wp_ret _ _)
  iapply HQ
  iexists (m.view.writes Val f [⟨r, w⟩])
  isplitr
  · ipureintro
    funext y
    by_cases hy : y ∈ r.set
    · rw [← Rect.map_emb_univ] at hy
      obtain ⟨x, -, rfl⟩ := Finset.mem_map.mp hy
      rw [Rect.overlay_emb]
      exact View.read_writes_cons_emb _ _ _ _ _ _
    · rw [Rect.overlay_of_not_mem _ _ _ hy]
      exact View.read_writes_cons_miss _ _ _ _ _ hy
  · iexact H

/-- A whole array's rectangle is it element by element. -/
theorem unit_zero_emb (o : Fin s.rank → Nat) (h : ∀ a, o a + s.size a ≤ s.size a) (ho : ∀ a, o a = 0) (i : s.Idx) :
    (Rect.unit (s := s) o s.size h).emb i = i := by
  funext a
  apply Fin.ext
  show o a + 1 * (i a).val = (i a).val
  rw [ho a, Nat.zero_add, Nat.one_mul]

theorem owns_load_all (o : Fin s.rank → Nat) (h : ∀ a, o a + s.size a ≤ s.size a) (ho : ∀ a, o a = 0)
    (hl : m.view.LoadsAt (Rect.unit (s := s) o s.size h).toLoadRect) (q : PosShare TreeShare) (X : s.Idx → Val e)
    (Q : (s.Idx → Val e) → sProp (MT nD τ sig Ix Val ℕ U Lvl)) :
    iprop(owns c m q X ∗ (owns c m q X -∗ Q X))
      ⊢ wp frame (wpE defs 𝒱 c bd) Set.univ (Prog.lift (.load m (Rect.unit (s := s) o s.size h).toLoadRect hl)) Q := by
  have hX : X = fun i => X ((Rect.unit (s := s) o s.size h).emb i) := funext fun i => by rw [unit_zero_emb o h ho]
  have := owns_load (U := U) (Lvl := Lvl) (Ix := Ix) defs 𝒱 c bd m (Rect.unit (s := s) o s.size h) hl q X Q
  rw [← hX] at this
  exact this

theorem owns_store_all (o : Fin s.rank → Nat) (h : ∀ a, o a + s.size a ≤ s.size a) (ho : ∀ a, o a = 0) (w : s.Idx → Val e)
    (hx : (m.access (Rect.unit (s := s) o s.size h)).Stores Finset.univ)
    (hm : (Finset.univ : Finset (Rect.unit (s := s) o s.size h).shape.Idx) = Finset.univ ∨ ∀ a, (Rect.unit (s := s) o s.size h).stride a = 1)
    (Q : PUnit → sProp (MT nD τ sig Ix Val ℕ U Lvl)) :
    iprop((∃ X, owns c m fullShare X) ∗ (owns c m fullShare w -∗ Q ⟨⟩))
      ⊢ wp frame (wpE defs 𝒱 c bd) Set.univ (Prog.lift (.store m (Rect.unit (s := s) o s.size h) w Finset.univ hx hm)) Q := by
  iintro ⟨⟨%X, H⟩, HQ⟩
  have hX : (Rect.unit (s := s) o s.size h).overlay X w = w := funext fun i => by
    have := Rect.overlay_emb (Rect.unit (s := s) o s.size h) X w i
    rwa [unit_zero_emb o h ho] at this
  have := owns_store (U := U) (Lvl := Lvl) (Ix := Ix) defs 𝒱 c bd m (Rect.unit (s := s) o s.size h) w hx hm X Q
  rw [hX] at this
  iapply this
  isplitl [H]
  · iexact H
  · iexact HQ

end

end Cert.Proof.Seg

end
-- ==== Proof.FusedWp.lean ====
/-
  The fused kernel's body executed: what one chunk, one tile, and the whole body leave in the accumulators and in the
  two result windows.
-/
module

public import proofs.«01_k».proof.Proof.FusedProg
public import proofs.«01_k».proof.Proof.OwnsRules

@[expose] public section

set_option maxRecDepth 16384

noncomputable section

namespace Cert.Proof.Seg

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the body computes -/

section Values

variable (v48 : IVec S2048x1 32) (v60 : FVec F S2048x512 .bf16) (v61 : FVec F S512x1 .bf16) (v62 : IVec S512x256 32)

/-- Chunk `c` into tile `t`'s sums, and into its counts, when it may hold rows of the tile. -/
def segIf (t : Fin 8) (c : Fin 4) (S : FVec F S256x512 .f32) : FVec F S256x512 .f32 :=
  if meets t (firstId v48 c) (lastId v48 c) (lo t) = 1#1 then segStep t c v48 v60 v62 S else S
def cntIf (t : Fin 8) (c : Fin 4) (N : FVec F S256x1 .f32) : FVec F S256x1 .f32 :=
  if meets t (firstId v48 c) (lastId v48 c) (lo t) = 1#1 then cntStep t c v48 v61 v62 N else N

/-- Tile `t`'s sums and counts. -/
def segSum (t : Fin 8) : FVec F S256x512 .f32 :=
  segIf v48 v60 v62 t 3 (segIf v48 v60 v62 t 2 (segIf v48 v60 v62 t 1 (segIf v48 v60 v62 t 0 (k0_pay4 (F := F)))))
def cntSum (t : Fin 8) : FVec F S256x1 .f32 :=
  cntIf v48 v61 v62 t 3 (cntIf v48 v61 v62 t 2 (cntIf v48 v61 v62 t 1 (cntIf v48 v61 v62 t 0 (k0_pay5 (F := F)))))

variable (w1 : Vec F S512x2048 .bf16) (b1 : Vec F S1x2048 .f32) (w2 : Vec F S2048x512 .bf16) (b2 g be : Vec F S1x512 .f32)

/-- Tile `t`'s rows of the table. -/
def tileOut (t : Fin 8) : FVec F S1x256x512 .f32 :=
  k0_pay195 (k0_pay26 (segSum v48 v60 v62 t) (cntSum v48 v61 v62 t) w1 b1 w2 b2) g be

/-- Tile `t`'s rows put into the table's window, when the tile holds a segment. -/
def tilePut (v57 : BitVec 32) (t : Fin 8) (X : S1x2048x512.Idx → Elt F .f32) : S1x2048x512.Idx → Elt F .f32 :=
  if Scalar.cmpi .ne (Scalar.extui (Scalar.cmpi .sgt v57 (lo t)) : BitVec 32) 0#32 = 1#1 then
    (Rect.unit (s := S1x2048x512) ![0, 256 * t.val, 0] S1x256x512.size (inb_tile t)).overlay X (tileOut v48 v60 v61 v62 w1 b1 w2 b2 g be t)
  else X

end Values

/-- The number of segments of a sentence's words. -/
def nSeg (x : Vec F S1x2048x1 .i32) : BitVec 32 := Scalar.addi (extractAt ![0, 0] (k0_pay192 (k0_pay188 (F := F) x) (k0_pay189 (F := F) x)) inpos_S1x1_p0_0) 1#32

/-- The numbers' window after the body at a sentence. -/
def idsOut (i : grid0.Coords) (x : Vec F S1x2048x1 .i32) : S1x2048x1.Idx → Elt F .i32 :=
  k0_pay191 (BitVec.ofNat 32 (i 0).val) (k0_pay188 (F := F) x) (k0_pay189 (F := F) x)

section Values

variable (v48 : IVec S2048x1 32) (v60 : FVec F S2048x512 .bf16) (v61 : FVec F S512x1 .bf16) (v62 : IVec S512x256 32)
variable (w1 : Vec F S512x2048 .bf16) (b1 : Vec F S1x2048 .f32) (w2 : Vec F S2048x512 .bf16) (b2 g be : Vec F S1x512 .f32) (v57 : BitVec 32)

/-- The table's window after the first five tiles, and after the last three. -/
def putHead (X : S1x2048x512.Idx → Elt F .f32) : S1x2048x512.Idx → Elt F .f32 :=
  tilePut v48 v60 v61 v62 w1 b1 w2 b2 g be v57 4 (tilePut v48 v60 v61 v62 w1 b1 w2 b2 g be v57 3 (tilePut v48 v60 v61 v62 w1 b1 w2 b2 g be v57 2
    (tilePut v48 v60 v61 v62 w1 b1 w2 b2 g be v57 1 (tilePut v48 v60 v61 v62 w1 b1 w2 b2 g be v57 0 X))))
def putTail (X : S1x2048x512.Idx → Elt F .f32) : S1x2048x512.Idx → Elt F .f32 :=
  tilePut v48 v60 v61 v62 w1 b1 w2 b2 g be v57 7 (tilePut v48 v60 v61 v62 w1 b1 w2 b2 g be v57 6 (tilePut v48 v60 v61 v62 w1 b1 w2 b2 g be v57 5 X))

end Values

/-- The table's window after the body, found at `X`. -/
def rowsAll (x : Vec F S1x2048x1 .i32) (y : Vec F S1x2048x512 .f32) (w1 : Vec F S512x2048 .bf16) (b1 : Vec F S1x2048 .f32) (w2 : Vec F S2048x512 .bf16)
    (b2 g be : Vec F S1x512 .f32) (X : S1x2048x512.Idx → Elt F .f32) : S1x2048x512.Idx → Elt F .f32 :=
  putTail (k0_pay190 (k0_pay188 (F := F) x) (k0_pay189 (F := F) x)) (k0_pay193 y) (k0_pay194 (F := F)) (iota .tc S512x256 32 [1] iota_S512x256_d1_w32)
    w1 b1 w2 b2 g be (nSeg x)
    (putHead (k0_pay190 (k0_pay188 (F := F) x) (k0_pay189 (F := F) x)) (k0_pay193 y) (k0_pay194 (F := F)) (iota .tc S512x256 32 [1] iota_S512x256_d1_w32)
      w1 b1 w2 b2 g be (nSeg x) X)

/-! ## The program logic -/

section Wp

variable (d : Dev nD)

local notation "𝕄" => MM F

variable (arg1 : Memref sig .tc .vmem S1x2048x1 .i32) (arg2 : Memref sig .tc .vmem S1x2048x512 .f32) (arg3 : Memref sig .tc .vmem S512x2048 .bf16) (arg4 : Memref sig .tc .vmem S1x2048 .f32) (arg5 : Memref sig .tc .vmem S2048x512 .bf16) (arg6 : Memref sig .tc .vmem S1x512 .f32) (arg7 : Memref sig .tc .vmem S1x512 .f32) (arg8 : Memref sig .tc .vmem S1x512 .f32) (arg9 : Memref sig .tc .vmem S1x2048x512 .f32) (arg10 : Memref sig .tc .vmem S1x2048x1 .i32) (arg11 : Memref sig .tc .vmem S256x512 .f32) (arg12 : Memref sig .tc .vmem S256x1 .f32)
variable (v48 : IVec S2048x1 32) (v60 : FVec F S2048x512 .bf16) (v61 : FVec F S512x1 .bf16) (v62 : IVec S512x256 32)

theorem zero2 : ∀ a, (![0, 0] : Fin 2 → Nat) a = 0 := by decide
theorem zero3 : ∀ a, (![0, 0, 0] : Fin 3 → Nat) a = 0 := by decide

/-- The two accumulators. -/
abbrev accs (S : S256x512.Idx → Elt F .f32) (N : S256x1.Idx → Elt F .f32) : sProp 𝕄 :=
  iprop(owns (T d) arg11 fullShare S ∗ owns (T d) arg12 fullShare N)

theorem chunkIf_wp {α : Type} (t : Fin 8) (c : Fin 4) (k : Unit → Prog (TpuEff nD τ sig (Elt F) Λ₀ .tc) α) (Q : α → sProp 𝕄)
    (S : FVec F S256x512 .f32) (N : FVec F S256x1 .f32) :
    iprop(accs (F := F) d arg11 arg12 S N
        ∗ (accs (F := F) d arg11 arg12 (segIf v48 v60 v62 t c S) (cntIf v48 v61 v62 t c N) -∗ wp frame (wpE (defs₀ (F := F)) 𝒱₀ (T d) none) Set.univ (k ⟨⟩) Q))
      ⊢ wp frame (wpE (defs₀ (F := F)) 𝒱₀ (T d) none) Set.univ
          (chunkIf arg11 arg12 v48 v60 v61 v62 t c (firstId v48 c) (lastId v48 c) (lo t) k) Q := by
  unfold chunkIf segIf cntIf
  split
  · simp only [wp_bind]
    iintro ⟨⟨HS, HN⟩, HK⟩
    iapply (owns_load_all _ _ (T d) none arg12 _ _ zero2 _ fullShare N _)
    isplitl [HN]; · iexact HN
    iintro HN
    iapply (owns_load_all _ _ (T d) none arg12 _ _ zero2 _ fullShare N _)
    isplitl [HN]; · iexact HN
    iintro HN
    iapply (owns_store_all _ _ (T d) none arg12 _ _ zero2 _ _ _ _)
    isplitl [HN]; · iexists N; iexact HN
    iintro HN
    iapply (owns_load_all _ _ (T d) none arg11 _ _ zero2 _ fullShare S _)
    isplitl [HS]; · iexact HS
    iintro HS
    iapply (owns_load_all _ _ (T d) none arg11 _ _ zero2 _ fullShare S _)
    isplitl [HS]; · iexact HS
    iintro HS
    iapply (owns_store_all _ _ (T d) none arg11 _ _ zero2 _ _ _ _)
    isplitl [HS]; · iexists S; iexact HS
    iintro HS
    iapply HK
    isplitl [HS]; · iexact HS
    iexact HN
  · iintro ⟨H, HK⟩
    iapply HK
    iexact H

variable (w1 : Vec F S512x2048 .bf16) (b1 : Vec F S1x2048 .f32) (w2 : Vec F S2048x512 .bf16) (b2 g be : Vec F S1x512 .f32)

/-- The network's parameters, as the windows hold them. -/
abbrev wts : sProp 𝕄 :=
  iprop(owns (T d) arg3 fullShare w1 ∗ owns (T d) arg4 fullShare b1 ∗ owns (T d) arg5 fullShare w2 ∗ owns (T d) arg6 fullShare b2
    ∗ owns (T d) arg7 fullShare g ∗ owns (T d) arg8 fullShare be)

theorem partA_wp (t : Fin 8) (Q : (Σ' (_ : BitVec 32) (_ : BitVec 32), BitVec 32) → sProp 𝕄) :
    iprop((∃ S N, accs (F := F) d arg11 arg12 S N)
        ∗ (accs (F := F) d arg11 arg12 (segIf v48 v60 v62 t 2 (segIf v48 v60 v62 t 1 (segIf v48 v60 v62 t 0 (k0_pay4 (F := F)))))
            (cntIf v48 v61 v62 t 2 (cntIf v48 v61 v62 t 1 (cntIf v48 v61 v62 t 0 (k0_pay5 (F := F)))))
          -∗ Q ⟨firstId v48 3, lastId v48 3, lo t⟩))
      ⊢ wp frame (wpE (defs₀ (F := F)) 𝒱₀ (T d) none) Set.univ (partA arg11 arg12 v48 v60 v61 v62 t) Q := by
  unfold partA
  simp only [wp_bind]
  iintro ⟨⟨%S, %N, HS, HN⟩, HK⟩
  iapply (owns_load_all _ _ (T d) none arg11 _ _ zero2 _ fullShare S _)
  isplitl [HS]; · iexact HS
  iintro HS
  iapply (owns_store_all _ _ (T d) none arg11 _ _ zero2 _ _ _ _)
  isplitl [HS]; · iexists S; iexact HS
  iintro HS
  iapply (owns_load_all _ _ (T d) none arg12 _ _ zero2 _ fullShare N _)
  isplitl [HN]; · iexact HN
  iintro HN
  iapply (owns_store_all _ _ (T d) none arg12 _ _ zero2 _ _ _ _)
  isplitl [HN]; · iexists N; iexact HN
  iintro HN
  iapply (chunkIf_wp d arg11 arg12 v48 v60 v61 v62 t 0 _ Q _ _)
  isplitl [HS HN]
  · isplitl [HS]; · iexact HS
    iexact HN
  iintro H
  iapply (chunkIf_wp d arg11 arg12 v48 v60 v61 v62 t 1 _ Q _ _)
  isplitl [H]; · iexact H
  iintro H
  iapply (chunkIf_wp d arg11 arg12 v48 v60 v61 v62 t 2 _ Q _ _)
  isplitl [H]; · iexact H
  iintro H
  iapply (le_wp_ret _ _)
  iapply HK
  iexact H

theorem partB_wp (t : Fin 8) (S : FVec F S256x512 .f32) (N : FVec F S256x1 .f32) (Q : FVec F S256x512 .f32 → sProp 𝕄) :
    iprop(accs (F := F) d arg11 arg12 S N ∗ wts (F := F) d arg3 arg4 arg5 arg6 arg7 arg8 w1 b1 w2 b2 g be
        ∗ ((accs (F := F) d arg11 arg12 (segIf v48 v60 v62 t 3 S) (cntIf v48 v61 v62 t 3 N) ∗ wts (F := F) d arg3 arg4 arg5 arg6 arg7 arg8 w1 b1 w2 b2 g be)
          -∗ Q (k0_pay26 (segIf v48 v60 v62 t 3 S) (cntIf v48 v61 v62 t 3 N) w1 b1 w2 b2)))
      ⊢ wp frame (wpE (defs₀ (F := F)) 𝒱₀ (T d) none) Set.univ
          (partB arg3 arg4 arg5 arg6 arg11 arg12 v48 v60 v61 v62 t (firstId v48 3) (lastId v48 3) (lo t)) Q := by
  unfold partB
  iintro ⟨H, ⟨H3, H4, H5, H6, H7, H8⟩, HK⟩
  iapply (chunkIf_wp d arg11 arg12 v48 v60 v61 v62 t 3 _ Q _ _)
  isplitl [H]; · iexact H
  simp only [wp_bind]
  iintro ⟨HS, HN⟩
  iapply (owns_load_all _ _ (T d) none arg11 _ _ zero2 _ fullShare _ _)
  isplitl [HS]; · iexact HS
  iintro HS
  iapply (owns_load_all _ _ (T d) none arg12 _ _ zero2 _ fullShare _ _)
  isplitl [HN]; · iexact HN
  iintro HN
  iapply (owns_load_all _ _ (T d) none arg3 _ _ zero2 _ fullShare _ _)
  isplitl [H3]; · iexact H3
  iintro H3
  iapply (owns_load_all _ _ (T d) none arg4 _ _ zero2 _ fullShare _ _)
  isplitl [H4]; · iexact H4
  iintro H4
  iapply (owns_load_all _ _ (T d) none arg5 _ _ zero2 _ fullShare _ _)
  isplitl [H5]; · iexact H5
  iintro H5
  iapply (owns_load_all _ _ (T d) none arg6 _ _ zero2 _ fullShare _ _)
  isplitl [H6]; · iexact H6
  iintro H6
  iapply (le_wp_ret _ _)
  iapply HK
  isplitl [HS HN]
  · isplitl [HS]; · iexact HS
    iexact HN
  isplitl [H3]; · iexact H3
  isplitl [H4]; · iexact H4
  isplitl [H5]; · iexact H5
  isplitl [H6]; · iexact H6
  isplitl [H7]; · iexact H7
  iexact H8

/-- What the tiles work on: the accumulators at anything, the parameters, the table's window. -/
abbrev tileHeld (X : S1x2048x512.Idx → Elt F .f32) : sProp 𝕄 :=
  iprop((∃ S N, accs (F := F) d arg11 arg12 S N) ∗ wts (F := F) d arg3 arg4 arg5 arg6 arg7 arg8 w1 b1 w2 b2 g be ∗ owns (T d) arg9 fullShare X)

theorem tileIf_wp {α : Type} (t : Fin 8) (v57 : BitVec 32) (k : Unit → Prog (TpuEff nD τ sig (Elt F) Λ₀ .tc) α) (Q : α → sProp 𝕄)
    (X : S1x2048x512.Idx → Elt F .f32) :
    iprop(tileHeld (F := F) d arg3 arg4 arg5 arg6 arg7 arg8 arg9 arg11 arg12 w1 b1 w2 b2 g be X
        ∗ (tileHeld (F := F) d arg3 arg4 arg5 arg6 arg7 arg8 arg9 arg11 arg12 w1 b1 w2 b2 g be (tilePut v48 v60 v61 v62 w1 b1 w2 b2 g be v57 t X)
          -∗ wp frame (wpE (defs₀ (F := F)) 𝒱₀ (T d) none) Set.univ (k ⟨⟩) Q))
      ⊢ wp frame (wpE (defs₀ (F := F)) 𝒱₀ (T d) none) Set.univ
          (tileIf arg3 arg4 arg5 arg6 arg7 arg8 arg9 arg11 arg12 v48 v60 v61 v62 t (Scalar.cmpi .sgt v57 (lo t)) k) Q := by
  unfold tileIf tilePut
  split
  · simp only [wp_bind]
    iintro ⟨⟨HA, HW, HX⟩, HK⟩
    iapply (partA_wp d arg11 arg12 v48 v60 v61 v62 t _)
    isplitl [HA]; · iexact HA
    iintro HA
    beta_reduce
    simp only [wp_bind]
    iapply (partB_wp d arg3 arg4 arg5 arg6 arg7 arg8 arg11 arg12 v48 v60 v61 v62 w1 b1 w2 b2 g be t _ _ _)
    isplitl [HA]; · iexact HA
    isplitl [HW]; · iexact HW
    iintro ⟨HA, ⟨H3, H4, H5, H6, H7, H8⟩⟩
    iapply (owns_load_all _ _ (T d) none arg7 _ _ zero2 _ fullShare _ _)
    isplitl [H7]; · iexact H7
    iintro H7
    iapply (owns_load_all _ _ (T d) none arg8 _ _ zero2 _ fullShare _ _)
    isplitl [H8]; · iexact H8
    iintro H8
    iapply (owns_load _ _ (T d) none arg9 _ _ fullShare _ _)
    isplitl [HX]; · iexact HX
    iintro HX
    iapply (owns_store _ _ (T d) none arg9 _ _ _ _ _ _)
    isplitl [HX]; · iexact HX
    iintro HX
    iapply HK
    isplitl [HA]
    · iexists (segSum v48 v60 v62 t), (cntSum v48 v61 v62 t)
      iexact HA
    isplitr [HX]
    · isplitl [H3]; · iexact H3
      isplitl [H4]; · iexact H4
      isplitl [H5]; · iexact H5
      isplitl [H6]; · iexact H6
      isplitl [H7]; · iexact H7
      iexact H8
    iexact HX
  · iintro ⟨H, HK⟩
    iapply HK
    iexact H

theorem headTiles_wp (v57 : BitVec 32) {α : Type} (k : Prog (TpuEff nD τ sig (Elt F) Λ₀ .tc) α) (Q : α → sProp 𝕄) (X : S1x2048x512.Idx → Elt F .f32) :
    iprop(tileHeld (F := F) d arg3 arg4 arg5 arg6 arg7 arg8 arg9 arg11 arg12 w1 b1 w2 b2 g be X
        ∗ (tileHeld (F := F) d arg3 arg4 arg5 arg6 arg7 arg8 arg9 arg11 arg12 w1 b1 w2 b2 g be (putHead v48 v60 v61 v62 w1 b1 w2 b2 g be v57 X)
          -∗ wp frame (wpE (defs₀ (F := F)) 𝒱₀ (T d) none) Set.univ k Q))
      ⊢ wp frame (wpE (defs₀ (F := F)) 𝒱₀ (T d) none) Set.univ
          (tileIf arg3 arg4 arg5 arg6 arg7 arg8 arg9 arg11 arg12 v48 v60 v61 v62 0 (Scalar.cmpi .sgt v57 (lo 0)) fun _ =>
           tileIf arg3 arg4 arg5 arg6 arg7 arg8 arg9 arg11 arg12 v48 v60 v61 v62 1 (Scalar.cmpi .sgt v57 (lo 1)) fun _ =>
           tileIf arg3 arg4 arg5 arg6 arg7 arg8 arg9 arg11 arg12 v48 v60 v61 v62 2 (Scalar.cmpi .sgt v57 (lo 2)) fun _ =>
           tileIf arg3 arg4 arg5 arg6 arg7 arg8 arg9 arg11 arg12 v48 v60 v61 v62 3 (Scalar.cmpi .sgt v57 (lo 3)) fun _ =>
           tileIf arg3 arg4 arg5 arg6 arg7 arg8 arg9 arg11 arg12 v48 v60 v61 v62 4 (Scalar.cmpi .sgt v57 (lo 4)) fun _ => k) Q := by
  unfold putHead
  iintro ⟨H, HK⟩
  iapply (tileIf_wp d arg3 arg4 arg5 arg6 arg7 arg8 arg9 arg11 arg12 v48 v60 v61 v62 w1 b1 w2 b2 g be 0 v57 _ Q _)
  isplitl [H]; · iexact H
  iintro H
  iapply (tileIf_wp d arg3 arg4 arg5 arg6 arg7 arg8 arg9 arg11 arg12 v48 v60 v61 v62 w1 b1 w2 b2 g be 1 v57 _ Q _)
  isplitl [H]; · iexact H
  iintro H
  iapply (tileIf_wp d arg3 arg4 arg5 arg6 arg7 arg8 arg9 arg11 arg12 v48 v60 v61 v62 w1 b1 w2 b2 g be 2 v57 _ Q _)
  isplitl [H]; · iexact H
  iintro H
  iapply (tileIf_wp d arg3 arg4 arg5 arg6 arg7 arg8 arg9 arg11 arg12 v48 v60 v61 v62 w1 b1 w2 b2 g be 3 v57 _ Q _)
  isplitl [H]; · iexact H
  iintro H
  iapply (tileIf_wp d arg3 arg4 arg5 arg6 arg7 arg8 arg9 arg11 arg12 v48 v60 v61 v62 w1 b1 w2 b2 g be 4 v57 _ Q _)
  isplitl [H]; · iexact H
  iintro H
  iapply HK
  iexact H

theorem tailTiles_wp (v57 : BitVec 32) (Q : PUnit → sProp 𝕄) (X : S1x2048x512.Idx → Elt F .f32) :
    iprop(tileHeld (F := F) d arg3 arg4 arg5 arg6 arg7 arg8 arg9 arg11 arg12 w1 b1 w2 b2 g be X
        ∗ (tileHeld (F := F) d arg3 arg4 arg5 arg6 arg7 arg8 arg9 arg11 arg12 w1 b1 w2 b2 g be (putTail v48 v60 v61 v62 w1 b1 w2 b2 g be v57 X)
          -∗ Q ⟨⟩))
      ⊢ wp frame (wpE (defs₀ (F := F)) 𝒱₀ (T d) none) Set.univ
          (tailProg arg3 arg4 arg5 arg6 arg7 arg8 arg9 arg11 arg12 ⟨v48, v57, v60, v61, v62, Scalar.cmpi .sgt v57 (lo 5)⟩) Q := by
  unfold putTail tailProg
  iintro ⟨H, HK⟩
  iapply (tileIf_wp d arg3 arg4 arg5 arg6 arg7 arg8 arg9 arg11 arg12 v48 v60 v61 v62 w1 b1 w2 b2 g be 5 v57 _ Q _)
  isplitl [H]; · iexact H
  iintro H
  iapply (tileIf_wp d arg3 arg4 arg5 arg6 arg7 arg8 arg9 arg11 arg12 v48 v60 v61 v62 w1 b1 w2 b2 g be 6 v57 _ Q _)
  isplitl [H]; · iexact H
  iintro H
  iapply (tileIf_wp d arg3 arg4 arg5 arg6 arg7 arg8 arg9 arg11 arg12 v48 v60 v61 v62 w1 b1 w2 b2 g be 7 v57 _ Q _)
  isplitl [H]; · iexact H
  iintro H
  iapply (le_wp_ret _ _)
  iapply HK
  iexact H

variable (i : grid0.Coords) (x : Vec F S1x2048x1 .i32) (y : Vec F S1x2048x512 .f32)

theorem headProg_wp (arg0 v57 : BitVec 32) (v41 v44 : IVec S2048x1 32) (hv : Scalar.addi (extractAt ![0, 0] (k0_pay192 v41 v44) inpos_S1x1_p0_0) 1#32 = v57)
    (h48 : k0_pay190 v41 v44 = v48) (h60 : k0_pay193 y = v60) (h61 : k0_pay194 (F := F) = v61) (h62 : iota .tc S512x256 32 [1] iota_S512x256_d1_w32 = v62)
    (X : S1x2048x512.Idx → Elt F .f32)
    (Q : (Σ' (_ : IVec S2048x1 32) (_ : BitVec 32) (_ : FVec F S2048x512 .bf16) (_ : FVec F S512x1 .bf16) (_ : IVec S512x256 32), BitVec 1) → sProp 𝕄) :
    iprop(owns (T d) arg2 fullShare y ∗ (∃ Z, owns (T d) arg10 fullShare Z)
        ∗ tileHeld (F := F) d arg3 arg4 arg5 arg6 arg7 arg8 arg9 arg11 arg12 w1 b1 w2 b2 g be X
        ∗ ((owns (T d) arg2 fullShare y ∗ owns (T d) arg10 fullShare (k0_pay191 arg0 v41 v44 : S1x2048x1.Idx → Elt F .i32)
            ∗ tileHeld (F := F) d arg3 arg4 arg5 arg6 arg7 arg8 arg9 arg11 arg12 w1 b1 w2 b2 g be
                (putHead v48 v60 v61 v62 w1 b1 w2 b2 g be v57 X))
          -∗ Q ⟨v48, v57, v60, v61, v62, Scalar.cmpi .sgt v57 (lo 5)⟩))
      ⊢ wp frame (wpE (defs₀ (F := F)) 𝒱₀ (T d) none) Set.univ
          (headProg arg2 arg3 arg4 arg5 arg6 arg7 arg8 arg9 arg10 arg11 arg12 arg0 v41 v44) Q := by
  unfold headProg
  simp only [wp_bind, hv, h48, h61, h62]
  iintro ⟨H2, ⟨%Z, H10⟩, H, HK⟩
  iapply (owns_load_all _ _ (T d) none arg10 _ _ zero3 _ fullShare _ _)
  isplitl [H10]; · iexact H10
  iintro H10
  iapply (owns_store_all _ _ (T d) none arg10 _ _ zero3 _ _ _ _)
  isplitl [H10]; · iexists Z; iexact H10
  iintro H10
  iapply (owns_load_all _ _ (T d) none arg2 _ _ zero3 _ fullShare _ _)
  isplitl [H2]; · iexact H2
  iintro H2
  rw [h60]
  iapply (headTiles_wp d arg3 arg4 arg5 arg6 arg7 arg8 arg9 arg11 arg12 v48 v60 v61 v62 w1 b1 w2 b2 g be v57 _ Q X)
  isplitl [H]; · iexact H
  iintro H
  iapply (le_wp_ret _ _)
  iapply HK
  isplitl [H2]; · iexact H2
  isplitl [H10]; · iexact H10
  iexact H

/-- The whole body. -/
theorem fused_wp (X : S1x2048x512.Idx → Elt F .f32) (Q : PUnit → sProp 𝕄) :
    iprop(owns (T d) arg1 fullShare x ∗ owns (T d) arg2 fullShare y ∗ (∃ Z, owns (T d) arg10 fullShare Z)
        ∗ tileHeld (F := F) d arg3 arg4 arg5 arg6 arg7 arg8 arg9 arg11 arg12 w1 b1 w2 b2 g be X
        ∗ ((owns (T d) arg1 fullShare x ∗ owns (T d) arg2 fullShare y ∗ owns (T d) arg10 fullShare (idsOut i x)
            ∗ tileHeld (F := F) d arg3 arg4 arg5 arg6 arg7 arg8 arg9 arg11 arg12 w1 b1 w2 b2 g be (rowsAll x y w1 b1 w2 b2 g be X)) -∗ Q ⟨⟩))
      ⊢ wp frame (wpE (defs₀ (F := F)) 𝒱₀ (T d) none) Set.univ
          (fusedProg i arg1 arg2 arg3 arg4 arg5 arg6 arg7 arg8 arg9 arg10 arg11 arg12) Q := by
  unfold fusedProg rowsAll idsOut
  simp only [wp_bind]
  iintro ⟨H1, H2, H10, H, HK⟩
  iapply (owns_load_all _ _ (T d) none arg1 _ _ zero3 _ fullShare _ _)
  isplitl [H1]; · iexact H1
  iintro H1
  beta_reduce
  generalize hn : nSeg x = n
  unfold nSeg at hn
  generalize k0_pay188 (F := F) x = v41 at hn ⊢
  generalize k0_pay189 (F := F) x = v44 at hn ⊢
  generalize h48 : k0_pay190 v41 v44 = v48
  generalize h60 : k0_pay193 y = v60
  generalize h61 : k0_pay194 (F := F) = v61
  generalize h62 : iota .tc S512x256 32 [1] iota_S512x256_d1_w32 = v62
  iapply (headProg_wp d arg2 arg3 arg4 arg5 arg6 arg7 arg8 arg9 arg10 arg11 arg12 v48 v60 v61 v62 w1 b1 w2 b2 g be y (BitVec.ofNat 32 (i 0).val) n
    v41 v44 hn h48 h60 h61 h62 X _)
  isplitl [H2]; · iexact H2
  isplitl [H10]; · iexact H10
  isplitl [H]; · iexact H
  iintro ⟨H2, H10, H⟩
  iapply (tailTiles_wp d arg3 arg4 arg5 arg6 arg7 arg8 arg9 arg11 arg12 v48 v60 v61 v62 w1 b1 w2 b2 g be n Q _)
  isplitl [H]; · iexact H
  iintro H
  iapply HK
  isplitl [H1]; · iexact H1
  isplitl [H2]; · iexact H2
  isplitl [H10]; · iexact H10
  iexact H

end Wp

end Cert.Proof.Seg

end
-- ==== Proof.FusedRegion.lean ====
/-
  The fused kernel's region: the proof data of its pipeline from any contents of @main's arrays, the body at every
  point, and the region entered and left with the TensorCore's unscoped buffers.
-/
module

public import proofs.«01_k».proof.Proof.FusedWp
public import proofs.«01_k».proof.Proof.Gen.KernelIdeal.Points
public import Idealize.ShloMosaic.Lib.Pipeline.DatRel
public import Idealize.ShloMosaic.Lib.Pipeline.ArrRel
public import Idealize.ShloMosaic.Lib.Pipeline.RegionsLoop
public import Idealize.ShloMosaic.Lib.Pipeline.FrameBody
public import Idealize.ShloMosaic.Lib.Pipeline.Value

@[expose] public section

set_option maxRecDepth 16384

noncomputable section

namespace Cert.Proof.Seg

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (Dat RDat)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- Contents of the TensorCore's buffers, core by core. -/
abbrev Cont (F : FTy → Type) : Type := (c : Dev nD) → (b : Ref sig .tc) → Buf (Elt F) ((c : Thread nD τ).loc b)

variable (W : Cont F)

/-! ## The blocks the windows hold -/

abbrev idsBlk (c : Dev nD) (t : Fin cfg0.N) : Vec F S1x2048x1 .i32 := ((cfg0.win 0).blk t).view.read (Elt F) (W c main_v0)
abbrev rowsBlk (c : Dev nD) (t : Fin cfg0.N) : Vec F S1x2048x512 .f32 := ((cfg0.win 1).blk t).view.read (Elt F) (W c main_arg0)
abbrev w1Blk (c : Dev nD) (t : Fin cfg0.N) : Vec F S512x2048 .bf16 := ((cfg0.win 2).blk t).view.read (Elt F) (W c main_v1)
abbrev b1Blk (c : Dev nD) (t : Fin cfg0.N) : Vec F S1x2048 .f32 := ((cfg0.win 3).blk t).view.read (Elt F) (W c main_v3)
abbrev w2Blk (c : Dev nD) (t : Fin cfg0.N) : Vec F S2048x512 .bf16 := ((cfg0.win 4).blk t).view.read (Elt F) (W c main_v2)
abbrev b2Blk (c : Dev nD) (t : Fin cfg0.N) : Vec F S1x512 .f32 := ((cfg0.win 5).blk t).view.read (Elt F) (W c main_v4)
abbrev gBlk (c : Dev nD) (t : Fin cfg0.N) : Vec F S1x512 .f32 := ((cfg0.win 6).blk t).view.read (Elt F) (W c main_v5)
abbrev beBlk (c : Dev nD) (t : Fin cfg0.N) : Vec F S1x512 .f32 := ((cfg0.win 7).blk t).view.read (Elt F) (W c main_v6)

/-- The table's block at a sentence, from what its window held before. -/
abbrev tblBlk (c : Dev nD) (t : Fin cfg0.N) (X : S1x2048x512.Idx → Elt F .f32) : S1x2048x512.Idx → Elt F .f32 :=
  rowsAll (idsBlk W c t) (rowsBlk W c t) (w1Blk W c t) (b1Blk W c t) (w2Blk W c t) (b2Blk W c t) (gBlk W c t) (beBlk W c t) X

abbrev Φc (c : Dev nD) : sProp 𝕄 := Pipeline.scopedRest (Ix := HIx 1) (Name := ℕ) (U := UU) (Lvl := ℕ) (Val := Elt F) spec0 c

/-- The pairs the core has recorded before the call: none above the call's levels. -/
abbrev recd (c : Dev nD) : Set (SemLoc sig × HIx 1) := {p | (K (F := F)).lev (T c, p.1) p.2 ≤ 8 * (inferInstance : SparseCore.Cfg.Blocks 1 1).fst 0}

def dat (c : Dev nD) : Dat τ (Elt F) (HIx 1) ℕ UU ℕ cfg0 c where
  A w := W c (Pipeline.arrRef spec0 w)
  after w t := match w with
    | ⟨0, _⟩ => idsBlk W c t
    | ⟨1, _⟩ => rowsBlk W c t
    | ⟨2, _⟩ => w1Blk W c t
    | ⟨3, _⟩ => b1Blk W c t
    | ⟨4, _⟩ => w2Blk W c t
    | ⟨5, _⟩ => b2Blk W c t
    | ⟨6, _⟩ => gBlk W c t
    | ⟨7, _⟩ => beBlk W c t
    | ⟨8, _⟩ => rowsBlk W c t
    | ⟨9, _⟩ => idsOut (grid0.coords t) (idsBlk W c t)
  Φ _ := Φc c
  q _ := fullShare
  owed _ := (K (F := F)).Otc c 0
  recorded _ := recd (F := F) c

/-- The table's window is known only up to the rows no tile writes. -/
def loose : Fin cfg0.W → Bool := fun w => match w with
  | ⟨8, _⟩ => true
  | _ => false

def Tbl (c : Dev nD) : (w : Fin cfg0.W) → Fin cfg0.N → ((cfg0.win w).block.Idx → Elt F (cfg0.win w).elt) → Prop := fun w t => match w with
  | ⟨8, _⟩ => fun X => ∃ X0, X = tblBlk W c t X0
  | _ => fun _ => True

abbrev st (c : Dev nD) (t : Fin cfg0.N) (w : Fin cfg0.W) (X : (cfg0.win w).block.Idx → Elt F (cfg0.win w).elt) : sProp 𝕄 :=
  owns (c : Thread nD τ) ((cfg0.win w).stage (cfg0.slots t w)) fullShare X

theorem body_eq (t : Fin cfg0.N) (s : (w : Fin 10) → Fin (cfg0.win w).nbuf) : defs₀ (F := F) .tc cfg0.body (cfg0.bodyArgs t s)
    = fusedProg (grid0.coords t) (win0_0.stage (s 0)) (win0_1.stage (s 1)) (win0_2.stage (s 2)) (win0_3.stage (s 3)) (win0_4.stage (s 4))
        (win0_5.stage (s 5)) (win0_6.stage (s 6)) (win0_7.stage (s 7)) (win0_8.stage (s 8)) (win0_9.stage (s 9)) (Memref.whole cc0_scratch0) (Memref.whole cc0_scratch1) :=
  fused_eq _ _ _ _ _ _ _ _ _ _ _ _ _ _ _ _ _ _ _ _ _ _ _ _ _

theorem whole_any (c : Dev nD) (b : Ref sig .tc) (X : b.ty.Contents (Elt F)) :
    (owns (T c) (Memref.whole b) fullShare X : sProp 𝕄) ⊢ iprop(∃ f : Buf (Elt F) ((c : Thread nD τ).loc b), ((c : Thread nD τ).loc b) ↦{fullShare} f) := by
  rw [owns_whole_eq]
  iintro ⟨%f, -, H⟩
  iexists f; iexact H

/-- The body at a point, its windows one by one. -/
theorem body_wp (c : Dev nD) (t : Fin cfg0.N) (O : sProp 𝕄) :
    iprop(Φc (F := F) c ∗ O
        ∗ st c t 0 (idsBlk W c t) ∗ st c t 1 (rowsBlk W c t) ∗ st c t 2 (w1Blk W c t) ∗ st c t 3 (b1Blk W c t) ∗ st c t 4 (w2Blk W c t)
        ∗ st c t 5 (b2Blk W c t) ∗ st c t 6 (gBlk W c t) ∗ st c t 7 (beBlk W c t) ∗ (∃ X, st (F := F) c t 8 X) ∗ (∃ X, st (F := F) c t 9 X))
      ⊢ wp frame (wpE (defs₀ (F := F)) 𝒱₀ (c : Thread nD τ) none) Set.univ (defs₀ (F := F) .tc cfg0.body (cfg0.bodyArgs t (cfg0.slots t))) fun _ =>
        iprop(Φc (F := F) c ∗ O
          ∗ st c t 0 (idsBlk W c t) ∗ st c t 1 (rowsBlk W c t) ∗ st c t 2 (w1Blk W c t) ∗ st c t 3 (b1Blk W c t) ∗ st c t 4 (w2Blk W c t)
          ∗ st c t 5 (b2Blk W c t) ∗ st c t 6 (gBlk W c t) ∗ st c t 7 (beBlk W c t) ∗ (∃ X, ⌜∃ X0, X = tblBlk W c t X0⌝ ∗ st (F := F) c t 8 X)
          ∗ st (F := F) c t 9 (idsOut (grid0.coords t) (idsBlk W c t))) := by
  rw [body_eq, show Φc (F := F) c = _ from scopedRest0_eq c]
  unfold tblBlk
  generalize idsBlk W c t = x
  generalize rowsBlk W c t = y
  generalize w1Blk W c t = w1
  generalize b1Blk W c t = b1
  generalize w2Blk W c t = w2
  generalize b2Blk W c t = b2
  generalize gBlk W c t = g
  generalize beBlk W c t = be
  iintro ⟨⟨⟨%f0, HS⟩, ⟨%f1, HN⟩⟩, HO, H0, H1, H2, H3, H4, H5, H6, H7, ⟨%X, H8⟩, H9⟩
  iapply (fused_wp c _ _ _ _ _ _ _ _ _ _ _ _ w1 b1 w2 b2 g be (grid0.coords t) x y X _)
  isplitl [H0]; · iexact H0
  isplitl [H1]; · iexact H1
  isplitl [H9]; · iexact H9
  isplitl [H2 H3 H4 H5 H6 H7 H8 HS HN]
  · unfold tileHeld
    isplitl [HS HN]
    · iexists f0, f1
      unfold accs
      rw [owns_whole_eq, owns_whole_eq]
      isplitl [HS]
      · iexists f0; isplitr; · ipureintro; rfl
        iexact HS
      · iexists f1; isplitr; · ipureintro; rfl
        iexact HN
    isplitl [H2 H3 H4 H5 H6 H7]
    · unfold wts
      isplitl [H2]; · iexact H2
      isplitl [H3]; · iexact H3
      isplitl [H4]; · iexact H4
      isplitl [H5]; · iexact H5
      isplitl [H6]; · iexact H6
      iexact H7
    · iexact H8
  unfold tileHeld wts accs
  iintro ⟨H0, H1, H9, ⟨%S, %N, HS, HN⟩, ⟨H2, H3, H4, H5, H6, H7⟩, H8⟩
  isplitl [HS HN]
  · isplitl [HS]
    · iapply (whole_any (F := F) c cc0_scratch0 S); iexact HS
    · iapply (whole_any (F := F) c cc0_scratch1 N); iexact HN
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact ⟨X, rfl⟩
  iexact H9

/-- An input window holds its array's block at every point. -/
theorem before_in (c : Dev nD) (w : Fin cfg0.W) (hw : (cfg0.win w).isOut = false)
    (hk : ∀ t, (cfg0.win w).cut (cfg0.grid.coords t) ((dat W c).after w t) = (dat W c).blockOf w t)
    (hf : ∀ t d, (dat W c).fetched w t d = (dat W c).after w t)
    (hc : ∀ t t' : Fin cfg0.N, (cfg0.win w).index t = (cfg0.win w).index t' →
      (cfg0.win w).clip (cfg0.grid.coords t) = (cfg0.win w).clip (cfg0.grid.coords t')) (t : Fin cfg0.N)
    (d : (cfg0.win w).block.Idx → Elt F (cfg0.win w).elt) : (dat W c).before w t d = (dat W c).after w t :=
  ((dat W c).before_in_eq_fetched w hw (fun _ => rfl) hc hk t d).trans (hf t d)

theorem before0 (c : Dev nD) (t : Fin cfg0.N) (d) : (dat W c).before 0 t d = idsBlk W c t := before_in W c 0 rfl (fun _ => rfl) (fun _ _ => rfl) (fun _ _ _ => rfl) t d
theorem before1 (c : Dev nD) (t : Fin cfg0.N) (d) : (dat W c).before 1 t d = rowsBlk W c t := before_in W c 1 rfl (fun _ => rfl) (fun _ _ => rfl) (fun _ _ _ => rfl) t d
theorem before2 (c : Dev nD) (t : Fin cfg0.N) (d) : (dat W c).before 2 t d = w1Blk W c t := before_in W c 2 rfl (fun _ => rfl) (fun _ _ => rfl) (fun _ _ _ => rfl) t d
theorem before3 (c : Dev nD) (t : Fin cfg0.N) (d) : (dat W c).before 3 t d = b1Blk W c t := before_in W c 3 rfl (fun _ => rfl) (fun _ _ => rfl) (fun _ _ _ => rfl) t d
theorem before4 (c : Dev nD) (t : Fin cfg0.N) (d) : (dat W c).before 4 t d = w2Blk W c t := before_in W c 4 rfl (fun _ => rfl) (fun _ _ => rfl) (fun _ _ _ => rfl) t d
theorem before5 (c : Dev nD) (t : Fin cfg0.N) (d) : (dat W c).before 5 t d = b2Blk W c t := before_in W c 5 rfl (fun _ => rfl) (fun _ _ => rfl) (fun _ _ _ => rfl) t d
theorem before6 (c : Dev nD) (t : Fin cfg0.N) (d) : (dat W c).before 6 t d = gBlk W c t := before_in W c 6 rfl (fun _ => rfl) (fun _ _ => rfl) (fun _ _ _ => rfl) t d
theorem before7 (c : Dev nD) (t : Fin cfg0.N) (d) : (dat W c).before 7 t d = beBlk W c t := before_in W c 7 rfl (fun _ => rfl) (fun _ _ => rfl) (fun _ _ _ => rfl) t d

theorem after0 (c : Dev nD) (t : Fin cfg0.N) : (dat W c).after 0 t = idsBlk W c t := rfl
theorem after1 (c : Dev nD) (t : Fin cfg0.N) : (dat W c).after 1 t = rowsBlk W c t := rfl
theorem after2 (c : Dev nD) (t : Fin cfg0.N) : (dat W c).after 2 t = w1Blk W c t := rfl
theorem after3 (c : Dev nD) (t : Fin cfg0.N) : (dat W c).after 3 t = b1Blk W c t := rfl
theorem after4 (c : Dev nD) (t : Fin cfg0.N) : (dat W c).after 4 t = w2Blk W c t := rfl
theorem after5 (c : Dev nD) (t : Fin cfg0.N) : (dat W c).after 5 t = b2Blk W c t := rfl
theorem after6 (c : Dev nD) (t : Fin cfg0.N) : (dat W c).after 6 t = gBlk W c t := rfl
theorem after7 (c : Dev nD) (t : Fin cfg0.N) : (dat W c).after 7 t = beBlk W c t := rfl
theorem after9 (c : Dev nD) (t : Fin cfg0.N) : (dat W c).after 9 t = idsOut (grid0.coords t) (idsBlk W c t) := rfl
theorem tbl8 (c : Dev nD) (t : Fin cfg0.N) (X) : Tbl W c 8 t X = ∃ X0, X = tblBlk W c t X0 := rfl

theorem loose0 : loose 0 = false := rfl
theorem loose1 : loose 1 = false := rfl
theorem loose2 : loose 2 = false := rfl
theorem loose3 : loose 3 = false := rfl
theorem loose4 : loose 4 = false := rfl
theorem loose5 : loose 5 = false := rfl
theorem loose6 : loose 6 = false := rfl
theorem loose7 : loose 7 = false := rfl
theorem loose8 : loose 8 = true := rfl
theorem loose9 : loose 9 = false := rfl
theorem idle_eq (w : Fin cfg0.W) (i : cfg0.grid.Coords) : cfg0.idle w i = false := rfl
theorem cut_eq (w : Fin cfg0.W) : cfg0.loose w = false := rfl

theorem body_obligation (c : Dev nD) : Pipeline.BodyObligationRel (dat W c) (defs₀ (F := F)) 𝒱₀ none Set.univ loose (Tbl W c) := fun t => by
  rw [bigSep_W0, bigSep_W0]
  rw [show (dat W c).Φ t.castSucc = Φc c from rfl, show (dat W c).Φ t.succ = Φc c from rfl,
    show (dat W c).owesAt none t.succ = (dat W c).owesAt none t.castSucc from rfl]
  generalize (dat W c).owesAt none t.castSucc = O
  simp only [loose0, loose1, loose2, loose3, loose4, loose5, loose6, loose7, loose8, loose9, idle_eq, cut_eq,
    before0, before1, before2, before3, before4, before5, before6, before7, after0, after1, after2, after3, after4, after5, after6, after7, after9, tbl8]
  have h := body_wp W c t O
  refine BIBase.Entails.trans (BIBase.Entails.trans ?_ h) ?post
  case post =>
    clear h
    apply BIBase.Entails.of_eq
    congr 1
  clear h
  generalize ((dat W c).toRRel loose (Tbl W c)).Finds 8 t = R
  generalize (dat W c).before 9 t = B
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%Y, -, H8⟩, ⟨%d9, H9⟩⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists Y; iexact H8
  iexists _; iexact H9

/-! ## The region -/

abbrev adm : (p : Fin 1) → (pcfgs (F := F) p).Adm := fun p => (cfgs p).toPCfg_adm

abbrev dats : (p : Fin 1) → (c : Dev nD) → Dat τ (Elt F) (HIx 1) ℕ UU ℕ (Pipeline.pin (pcfgs (F := F)) adm p) c := fun _ c => dat W c
abbrev rdats : (p : Fin 1) → (c : Dev nD) → RDat τ (Elt F) (HIx 1) ℕ UU ℕ (Pipeline.pin (pcfgs (F := F)) adm p) c := fun _ c => (dat W c).toRRel loose (Tbl W c)

/-- What the region leaves of @main's arrays: the table's rows of each sentence its kernel's over whatever its window
    held, the numbers its kernel's, everything else as it was. -/
structure Left (c : Dev nD) (W' : (b : Ref sig .tc) → Buf (Elt F) ((c : Thread nD τ).loc b)) : Prop where
  same : ∀ b : Ref sig .tc, b ≠ main_v7_0 → b ≠ main_v7_1 → W' b = W c b
  table : ∀ t : Fin cfg0.N, ∃ X0, ((cfg0.win 8).blk t).view.read (Elt F) (W' main_v7_0) = tblBlk W c t X0
  nums : ∀ t : Fin cfg0.N, ((cfg0.win 9).blk t).view.read (Elt F) (W' main_v7_1) = idsOut (grid0.coords t) (idsBlk W c t)

theorem Otc_none (c : Dev nD) (g : GSem nD τ sig) : (K (F := F)).Otc c 0 g none = 0 := by
  by_contra h
  have := (K (F := F)).lev_of_Otc_pos (Nat.pos_of_ne_zero h)
  exact absurd this (by show ¬ (_ ≤ 0); omega)

/-- What the core owes at the region's ends. -/
abbrev owesB (c : Dev nD) : sProp 𝕄 :=
  iprop(∃ R, ⌜(K (F := F)).WBelow (T c) R (8 * (inferInstance : SparseCore.Cfg.Blocks 1 1).fst 0)⌝ ∗ owes (T c) ((K (F := F)).Otc c 0) R)

theorem index_inj8 : ∀ t t' : Fin grid0.N, win0_8.index t = win0_8.index t' → t = t' := by decide +kernel
theorem index_inj9 : ∀ t t' : Fin grid0.N, win0_9.index t = win0_9.index t' → t = t' := by decide +kernel

theorem disj8 : ∀ t t' : Fin cfg0.N, (cfg0.win 8).flush t = true → (cfg0.win 8).flush t' = true → t ≠ t' →
    Disjoint ((cfg0.win 8).blk t).view.set ((cfg0.win 8).blk t').view.set := by
  exact Pipeline.Window.hdisj_of_index_inj (cfg0.win 8) fun t t' _ _ h => index_inj8 t t' h
theorem disj9 : ∀ t t' : Fin cfg0.N, (cfg0.win 9).flush t = true → (cfg0.win 9).flush t' = true → t ≠ t' →
    Disjoint ((cfg0.win 9).blk t).view.set ((cfg0.win 9).blk t').view.set := by
  exact Pipeline.Window.hdisj_of_index_inj (cfg0.win 9) fun t t' _ _ h => index_inj9 t t' h

theorem leaves9 [∀ e, Nonempty (Elt F e)] (c : Dev nD) (t : Fin cfg0.N) (X) (h : ((dat W c).toRRel loose (Tbl W c)).Leaves 9 t X) :
    X = idsOut (grid0.coords t) (idsBlk W c t) := by
  obtain ⟨Y, -, hX⟩ := h
  rw [(dat W c).toRRel_after_of_eq_false loose9] at hX
  exact hX

/-- The contents after the region, from those before it and what it leaves of the two results. -/
def put (c : Dev nD) (Wc : (b : Ref sig .tc) → Buf (Elt F) ((c : Thread nD τ).loc b))
    (G8 : Buf (Elt F) ((c : Thread nD τ).loc main_v7_0)) (G9 : Buf (Elt F) ((c : Thread nD τ).loc main_v7_1)) :
    (b : Ref sig .tc) → Buf (Elt F) ((c : Thread nD τ).loc b) :=
  Function.update (Function.update Wc main_v7_0 G8) main_v7_1 G9

theorem put_8 (c : Dev nD) (Wc G8 G9) : put (F := F) c Wc G8 G9 main_v7_0 = G8 := by
  unfold put; rw [Function.update_of_ne (by decide), Function.update_self]
theorem put_9 (c : Dev nD) (Wc G8 G9) : put (F := F) c Wc G8 G9 main_v7_1 = G9 := by
  unfold put; rw [Function.update_self]
theorem put_ne (c : Dev nD) (Wc G8 G9) (b : Ref sig .tc) (h8 : b ≠ main_v7_0) (h9 : b ≠ main_v7_1) : put (F := F) c Wc G8 G9 b = Wc b := by
  unfold put; rw [Function.update_of_ne h9, Function.update_of_ne h8]

theorem left_of_arrAt [∀ e, Nonempty (Elt F e)] (c : Dev nD) (A : (w : Fin cfg0.W) → Buf (Elt F) ((cfg0.win w).arr.view.loc (c.tc : Thread nD τ)))
    (hA : ∀ w, ((dat W c).toRRel loose (Tbl W c)).ArrAt w cfg0.N (A w)) : Left W c (put c (W c) (A 8) (A 9)) := by
  obtain ⟨after, hL, hG⟩ := RDat.ArrAt.exists_exact_all hA
  refine ⟨fun b h8 h9 => put_ne c _ _ _ b h8 h9, fun t => ?_, fun t => ?_⟩
  · rw [put_8]
    have hT : Tbl W c 8 t (after 8 t) := (dat W c).toRRel_leaves loose8 (hL 8 t t.isLt (flush0_8 t))
    obtain ⟨X0, hX⟩ := hT
    refine ⟨X0, ?_⟩
    rw [hG 8]
    refine (Dat.read_blk_arrAt_eq_flushed _ 8 disj8 cfg0.N t t.isLt (flush0_8 t)).trans ?_
    exact hX
  · rw [put_9, hG 9]
    refine (Dat.read_blk_arrAt_eq_flushed _ 9 disj9 cfg0.N t t.isLt (flush0_9 t)).trans ?_
    exact leaves9 W c t _ (hL 9 t t.isLt (flush0_9 t))

theorem arrays_put [∀ e, Nonempty (Elt F e)] (c : Dev nD) (A : (w : Fin cfg0.W) → Buf (Elt F) ((cfg0.win w).arr.view.loc (c.tc : Thread nD τ)))
    (hA : ∀ w, ((dat W c).toRRel loose (Tbl W c)).ArrAt w cfg0.N (A w)) (w : Fin cfg0.W) :
    A w = put c (W c) (A 8) (A 9) (Pipeline.arrRef spec0 w) := by
  have hin : ∀ w, (cfg0.win w).isOut = false → A w = W c (Pipeline.arrRef spec0 w) := fun w h => by
    have hw := hA w
    rw [RDat.ArrAt_in _ w h] at hw
    exact hw
  match w with
  | 0 => exact (hin 0 rfl).trans (put_ne c _ _ _ main_v0 (by decide) (by decide)).symm
  | 1 => exact (hin 1 rfl).trans (put_ne c _ _ _ main_arg0 (by decide) (by decide)).symm
  | 2 => exact (hin 2 rfl).trans (put_ne c _ _ _ main_v1 (by decide) (by decide)).symm
  | 3 => exact (hin 3 rfl).trans (put_ne c _ _ _ main_v3 (by decide) (by decide)).symm
  | 4 => exact (hin 4 rfl).trans (put_ne c _ _ _ main_v2 (by decide) (by decide)).symm
  | 5 => exact (hin 5 rfl).trans (put_ne c _ _ _ main_v4 (by decide) (by decide)).symm
  | 6 => exact (hin 6 rfl).trans (put_ne c _ _ _ main_v5 (by decide) (by decide)).symm
  | 7 => exact (hin 7 rfl).trans (put_ne c _ _ _ main_v6 (by decide) (by decide)).symm
  | 8 => exact (put_8 c _ _ _).symm
  | 9 => exact (put_9 c _ _ _).symm

theorem arrays_left [∀ e, Nonempty (Elt F e)] (c : Dev nD) :
    iprop(((dat W c).toRRel loose (Tbl W c)).arraysAt cfg0.N ∗ Pipeline.unscopedRest (Ix := HIx 1) (Name := ℕ) (U := UU) (Lvl := ℕ) spec0 c (W c))
      ⊢ iprop(∃ W', ⌜Left W c W'⌝ ∗ (unscopedBufs c W' : sProp 𝕄)) := by
  have hforget : (((dat W c).toRRel loose (Tbl W c)).arraysAt cfg0.N : sProp 𝕄) ⊢ iprop(∃ A : (w : Fin cfg0.W) → Buf (Elt F) ((cfg0.win w).arr.view.loc (c.tc : Thread nD τ)),
      ⌜∀ w, ((dat W c).toRRel loose (Tbl W c)).ArrAt w cfg0.N (A w)⌝ ∗ (dat W c).arrays A) := by
    unfold RDat.arraysAt Dat.arrays
    refine (BI.bigSep_exists_pi Finset.univ _).trans ?_
    iintro ⟨%A, H⟩
    ihave H' := (BI.bigSep_pure_sep Finset.univ (fun w => ((dat W c).toRRel loose (Tbl W c)).ArrAt w cfg0.N (A w)) _) $$ H
    icases H' with ⟨%hA, H⟩
    iexists A
    isplitr
    · ipureintro; exact fun w => hA w (Finset.mem_univ w)
    iexact H
  refine (sep_mono_left hforget).trans ?_
  iintro ⟨⟨%A, %hA, Ha⟩, Hr⟩
  iexists put c (W c) (A 8) (A 9)
  isplitr
  · ipureintro; exact left_of_arrAt W c A hA
  have h := Pipeline.unscopedBufs_of_arrays (p := 0) (pcfgs (F := F)) adm launch0.win launch0.arr_whole c (dats W) ((dat W c).share_full fun _ => rfl)
    (W c) (put c (W c) (A 8) (A 9)) A (fun w => arrays_put W c A hA w) fun b hb => put_ne c _ _ _ b
      (fun e => hb (e ▸ Finset.mem_image.mpr ⟨(8 : Fin 10), Finset.mem_univ _, rfl⟩))
      (fun e => hb (e ▸ Finset.mem_image.mpr ⟨(9 : Fin 10), Finset.mem_univ _, rfl⟩))
  iapply h
  isplitl [Ha]; · iexact Ha
  iexact Hr

set_option backward.isDefEq.respectTransparency.types false in
def reg [∀ e, Nonempty (Elt F e)] : RDat.RegionSeg (pcfgs (F := F)) adm (rdats W) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).toRRel
  hwaits c := RDat.cellsWaits_intro _ _ none 0 c fun w s t => (K (F := F)).mayWait_none _ fun g => Otc_none c g
  pre c := iprop(unscopedBufs c (W c) ∗ owesB c)
  post c := iprop((∃ W', ⌜Left W c W'⌝ ∗ unscopedBufs c W') ∗ owesB c)
  X _ := BI.emp
  Y _ := BI.emp
  Z c := Pipeline.unscopedRest (Ix := HIx 1) (Name := ℕ) (U := UU) (Lvl := ℕ) spec0 c (W c)
  hentry c := by
    rw [Pipeline.ownSems0_none]
    have hsplit := RDat.arrays_of_unscopedBufs (p := 0) (pcfgs (F := F)) adm (rdats W) launch0.win launch0.arr_whole c
      ((dat W c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%R, %hR, HO⟩; iexists R; isplitr
      · ipureintro; exact fun p hp => Or.inl (hR p hp)
      iexact HO
    isplitr; · iempintro
    iexact Hrest
  hin c := by
    rw [show (rdats W 0 c).Φ 0 = Φc c from rfl]
    iintro ⟨-, -, Hr⟩; iexact Hr
  hout c := by
    rw [Pipeline.ownSems0_none, show (rdats W 0 c).Φ (Fin.last _) = Φc c from rfl]
    iintro Hr
    isplitr; · iempintro
    isplitr; · iempintro
    iexact Hr
  hexit c := by
    iintro ⟨Ha, HO, -, Hrest⟩
    imodintro
    isplitl [Ha Hrest]
    · iapply (arrays_left W c); isplitl [Ha]; · iexact Ha
      iexact Hrest
    unfold Pipeline.RDat.owesAt Pipeline.owesWithin
    icases HO with ⟨%R, %hR, HO⟩; iexists R; isplitr
    · ipureintro
      intro p hp
      rcases hR hp with h | ⟨w, s, h⟩
      · exact h
      · rw [h]; exact Nat.zero_le _
    iexact HO

end Cert.Proof.Seg

end
-- ==== Proof.ScTile.lean ====
/-
  The SparseCore kernel on one vector subcore, with values: each of its eight chunks fetches 64 row numbers, gathers
  those rows of the table in four column quarters, and writes the 64 rows out. The quarter and the chunk are stated and
  proved once, at a symbolic subcore and a symbolic chunk.
-/
module

public import proofs.«01_k».proof.Proof.Setup
public import Idealize.ShloMosaic.Lib.Writes

@[expose] public section

set_option maxRecDepth 16384

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v8_scv : Memref Cert.KernelIdeal.sig Kind.scVector Space.hbm Cert.KernelIdeal.S16384x512 EltTy.f32)
local notation "iV" => (Memref.whole Cert.KernelIdeal.main_v9_scv : Memref Cert.KernelIdeal.sig Kind.scVector Space.hbm Cert.KernelIdeal.S16384 EltTy.i32)
local notation "oV" => (Memref.whole Cert.KernelIdeal.main_v10_scv : Memref Cert.KernelIdeal.sig Kind.scVector Space.hbm Cert.KernelIdeal.S16384x512 EltTy.f32)
local notation "sV" => (Memref.whole Cert.KernelIdeal.cc1_scratch0 : Memref Cert.KernelIdeal.sig Kind.scVector Space.vmem Cert.KernelIdeal.S64 EltTy.i32)
local notation "rV" => (Memref.whole Cert.KernelIdeal.cc1_scratch1 : Memref Cert.KernelIdeal.sig Kind.scVector Space.vmem Cert.KernelIdeal.S64x512 EltTy.f32)

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-! ## One column quarter -/

/-- Columns `n … n+127` of the table, and of the row buffer. -/
abbrev xq (n : ℕ) (h : ∀ a, (![0, n] : Fin 2 → ℕ) a + S16384x128.size a ≤ S16384x512.size a) : Memref sig .scVector .hbm S16384x128 .f32 :=
  (xV).slice (Rect.unit (s := S16384x512) ![0, n] S16384x128.size h) (fun _ => rfl)
abbrev rq (n : ℕ) (h : ∀ a, (![0, n] : Fin 2 → ℕ) a + S64x128.size a ≤ S64x512.size a) : Memref sig .scVector .vmem S64x128 .f32 :=
  (rV).slice (Rect.unit (s := S64x512) ![0, n] S64x128.size h) (fun _ => rfl)

/-- One quarter's gather and its wait. -/
def quarterProg (n : ℕ) (h2 : ∀ a, (![0, n] : Fin 2 → ℕ) a + S16384x128.size a ≤ S16384x512.size a)
    (h6 : ∀ a, (![0, n] : Fin 2 → ℕ) a + S64x128.size a ≤ S64x512.size a) :
    Prog (TpuEff nD τ sig (Elt F) Λ₀ (.scVector (cV L) (jV L))) PUnit := do
  SparseCore.enqueueIndirectGather rfl (xq n h2) (rq n h6) gathers_S16384x128_S64x128 sV rfl cc1_scratch2.sem (View.wordExact_bits rfl) rfl (Or.inl rfl)
  SparseCore.waitIndirectGather cc1_scratch2.sem (xq n h2) (rq n h6) (View.wordExact_bits rfl) (View.wordExact_bits rfl)

/-- The first `n` columns of the row buffer hold the table's rows that the list names. -/
def RowsOK (tbl : S16384x512.Idx → Elt F .f32) (ids : S64.Idx → Elt F .i32) (g : S64x512.Idx → Elt F .f32) (n : ℕ) : Prop :=
  ∀ (x : S64x512.Idx) (y : S16384x512.Idx) (z : S64.Idx), (x 1).val < n → (z 0).val = (x 0).val →
    (y 0).val = (ids z).toNat → (y 1).val = (x 1).val → g x = tbl y

omit [FloatOps F] in
theorem rowsOK_quarter (tbl : S16384x512.Idx → Elt F .f32) (ids : S64.Idx → Elt F .i32) (g : S64x512.Idx → Elt F .f32) (n : ℕ)
    (h2 : ∀ a, (![0, n] : Fin 2 → ℕ) a + S16384x128.size a ≤ S16384x512.size a)
    (h6 : ∀ a, (![0, n] : Fin 2 → ℕ) a + S64x128.size a ≤ S64x512.size a)
    (hin : ∀ x, ((sV).view.read (Elt F) ids x).toNat < S16384x128.size gathers_S16384x128_S64x128.axis)
    (hn : S64.numel = S64x128.size gathers_S16384x128_S64x128.axis')
    (H : RowsOK tbl ids g n) :
    RowsOK tbl ids ((rq n h6).view.write (Elt F) g (SparseCore.gatherPayload gathers_S16384x128_S64x128 ((xq n h2).view.read (Elt F) tbl)
      (SparseCore.rows ((sV).view.read (Elt F) ids) hn hin)) Finset.univ) (n + 128) := by
  intro x y z hx hz hy hy1
  by_cases hlt : (x 1).val < n
  · rw [← H x y z hlt hz hy hy1]
    have := View.read_writes_cons_miss_of_axis (Val := Elt F) (rV).view g ⟨Rect.unit (s := S64x512) ![0, n] S64x128.size h6, SparseCore.gatherPayload gathers_S16384x128_S64x128 ((xq n h2).view.read (Elt F) tbl)
      (SparseCore.rows ((sV).view.read (Elt F) ids) hn hin)⟩ [] x 1 n 128 rfl rfl rfl (Or.inl hlt)
    simpa using this
  · let x' : S64x128.Idx := fun a => match a with | 0 => x 0 | 1 => (⟨(x 1).val - n, by omega⟩ : Fin 128)
    have := View.read_writes_cons_hit_of_coords (Val := Elt F) (rV).view g (Rect.unit (s := S64x512) ![0, n] S64x128.size h6) (SparseCore.gatherPayload gathers_S16384x128_S64x128 ((xq n h2).view.read (Elt F) tbl)
      (SparseCore.rows ((sV).view.read (Elt F) ids) hn hin)) [] x' x (fun a => by
        match a with
        | 0 => show (x 0).val = 0 + 1 * (x 0).val; omega
        | 1 => show (x 1).val = n + 1 * ((x 1).val - n); omega)
    refine (Eq.trans ?_ this).trans ?_
    · simp
    · show tbl ((xq n h2).view.emb (gathers_S16384x128_S64x128.idx (SparseCore.rows ((sV).view.read (Elt F) ids) hn hin) x')) = tbl y
      congr 1
      funext a
      apply Fin.ext
      match a with
      | 0 =>
        show 0 + 1 * (ids (S64.rowMajor.symm _)).toNat = (y 0).val
        rw [hy, Nat.zero_add, Nat.one_mul]
        congr 2
        rw [Equiv.symm_apply_eq]
        apply Fin.ext
        exact (hz.symm.trans (Shape.rowMajor_val_one (d := ![64]) z).symm)
      | 1 =>
        show n + 1 * ((x 1).val - n) = (y 1).val
        omega

set_option maxHeartbeats 1000000 in
/-- One quarter: the list is kept, the row buffer gains 128 columns. -/
theorem quarter_wp (n : ℕ) (h2 : ∀ a, (![0, n] : Fin 2 → ℕ) a + S16384x128.size a ≤ S16384x512.size a)
    (h6 : ∀ a, (![0, n] : Fin 2 → ℕ) a + S64x128.size a ≤ S64x512.size a)
    (q : PosShare TreeShare) (tbl : S16384x512.Idx → Elt F .f32) (ids : S64.Idx → Elt F .i32) (g : S64x512.Idx → Elt F .f32)
    (hin : ∀ x, (ids x).toNat < 16384) (O : CellTallies nD τ sig (HIx 1)) (W : Waits sig (HIx 1)) (hO : ∀ g, O g none = 0) (hg : RowsOK tbl ids g n) :
    iprop(levAts (K (F := F)).L (K (F := F)).lev ∗ ((xV).view.loc (thr d L) ↦{q} tbl) ∗ ((rV).view.loc (thr d L) ↦{fullShare} g)
        ∗ ((sV).view.loc (thr d L) ↦{fullShare} ids) ∗ semVal (thr d L, SemLoc.dma cc1_scratch2.sem) 0 ∗ owes (thr d L) O W)
      ⊢ wp frame (wpE (defs₀ (F := F)) 𝒱₀ (thr d L) none) Set.univ (quarterProg L n h2 h6)
          fun _ => (iprop(((xV).view.loc (thr d L) ↦{q} tbl) ∗ (∃ g', ⌜RowsOK tbl ids g' (n + 128)⌝ ∗ ((rV).view.loc (thr d L) ↦{fullShare} g'))
            ∗ ((sV).view.loc (thr d L) ↦{fullShare} ids) ∗ semVal (thr d L, SemLoc.dma cc1_scratch2.sem) 0
            ∗ owes (thr d L) O (insert (SemLoc.dma cc1_scratch2.sem, none) W)) : sProp 𝕄) := by
  iintro ⟨#Hlv, Hx, Hr, Hs, Hsem, HO⟩
  ihave Hmw := (show levAts (K (F := F)).L (K (F := F)).lev ⊢ Transfers.MayWaits (thr d L) (none : HIx 1) O from
    (K (F := F)).mayWaits_none (thr := thr d L) hO) $$ Hlv
  have hN' : ∀ h : S16384x128.Gathers 0 S64x128, ∑ _j : Fin (S64x128.size h.axis'), (cc1_scratch1 : Ref sig .scVector).dmaCredit (S64x128.rowShape h.axis') .f32
      = (cc1_scratch1 : Ref sig .scVector).dmaCredit S64x128 .f32 := by decide
  have hN : ∀ h : S16384x128.Gathers 0 S64x128, ∑ j, ((rq n h6).slice (S64x128.rowRect h.axis' j) (S64x128.stride_rowRect h.axis' j)).view.dmaCredit
      = (rq n h6).view.dmaCredit := fun h => hN' h
  have hin' : ∀ x, ((sV).view.read (Elt F) ids x).toNat < S16384x128.size gathers_S16384x128_S64x128.axis := fun x => hin x
  unfold quarterProg
  iapply (SparseCore.wp_gatherFromWhole countersEmb 𝒱₀ (thr d L) none (hg := gathers_S16384x128_S64x128) (none : HIx 1)
      (rq n h6).view.dmaCredit (hN _) (by decide) hin') $$ [Hx Hr Hs Hsem]
  · isplitl [Hx]; · iexact Hx
    isplitl [Hr]; · iexact Hr
    isplitl [Hs]; · iexact Hs
    iexact Hsem
  iintro Hfl
  iapply (Transfers.wp_waitLocalO countersEmb 𝒱₀ (thr d L) none (none : HIx 1) (rfl : (rq n h6).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr, Hx, Hs⟩, Hsem, HO⟩
  rw [wp_ret]
  imodintro
  isplitl [Hx]; · iexact Hx
  isplitl [Hr]
  · iexists _
    isplitr
    swap; · iexact Hr
    ipureintro; exact rowsOK_quarter tbl ids g n h2 h6 hin' _ hg
  isplitl [Hs]; · iexact Hs
  isplitl [Hsem]; · iexact Hsem
  iexact HO

/-! ## One chunk -/

/-- Chunk `r`'s 64 row numbers, and its 64 rows of the result. -/
abbrev ichunkK (r : Fin 8) : Memref sig .scVector .hbm S64 .i32 :=
  (iV).slice (Rect.unit (s := S16384) (k1_off1 L (BitVec.ofNat 32 r.val)) S64.size (k1_off1_inb L r)) (fun _ => rfl)
abbrev ochunkK (r : Fin 8) : Memref sig .scVector .hbm S64x512 .f32 :=
  (oV).slice (Rect.unit (s := S16384x512) (k1_off2 L (BitVec.ofNat 32 r.val)) S64x512.size (k1_off2_inb L r)) (fun _ => rfl)

/-- One chunk: fetch the row numbers, gather the four quarters, write the rows out. -/
def chunkProg (r : Fin 8) (sA sB : DmaSems sig S_) : Prog (TpuEff nD τ sig (Elt F) Λ₀ (.scVector (cV L) (jV L))) PUnit := do
  Prog.lift (.enqueueDma (ichunkK L r) (.here sV) (.dma sA.sem) (View.wordExact_bits rfl) (Memref.isWhole_whole _).wordExact ⟨Or.inl rfl, trivial⟩)
  Prog.lift (.waitDma2 sA.sem (ichunkK L r) sV (View.wordExact_bits rfl) (Memref.isWhole_whole _).wordExact)
  quarterProg L 0 inb_S16384x512_S16384x128_0_0 inb_S64x512_S64x128_0_0
  quarterProg L 128 inb_S16384x512_S16384x128_0_128 inb_S64x512_S64x128_0_128
  quarterProg L 256 inb_S16384x512_S16384x128_0_256 inb_S64x512_S64x128_0_256
  quarterProg L 384 inb_S16384x512_S16384x128_0_384 inb_S64x512_S64x128_0_384
  Prog.lift (.enqueueDma rV (.here (ochunkK L r)) (.dma sB.sem) (Memref.isWhole_whole _).wordExact (View.wordExact_bits rfl) ⟨Or.inl rfl, trivial⟩)
  Prog.lift (.waitDma2 sB.sem rV (ochunkK L r) (Memref.isWhole_whole _).wordExact (View.wordExact_bits rfl))

/-- Each chunk's two copy semaphores. -/
def semA : Fin 8 → DmaSems sig S_
  | 0 => cc1_scoped0 | 1 => cc1_scoped2 | 2 => cc1_scoped4 | 3 => cc1_scoped6 | 4 => cc1_scoped8 | 5 => cc1_scoped10 | 6 => cc1_scoped12 | 7 => cc1_scoped14
def semB : Fin 8 → DmaSems sig S_
  | 0 => cc1_scoped1 | 1 => cc1_scoped3 | 2 => cc1_scoped5 | 3 => cc1_scoped7 | 4 => cc1_scoped9 | 5 => cc1_scoped11 | 6 => cc1_scoped13 | 7 => cc1_scoped15

/-- Chunks one after another. -/
def chunksProg : List (Fin 8) → Prog (TpuEff nD τ sig (Elt F) Λ₀ (.scVector (cV L) (jV L))) PUnit
  | [] => pure ⟨⟩
  | r :: l => do
    chunkProg L r (semA r) (semB r)
    chunksProg l

set_option maxRecDepth 65536 in
set_option maxHeartbeats 4000000 in
/-- The kernel is its eight chunks. -/
theorem body_eq_chunks : cc1__decompress_body (F := F) L xV (Memref.isWhole_whole _) iV (Memref.isWhole_whole _) oV (Memref.isWhole_whole _)
      sV (Memref.isWhole_whole _) rV (Memref.isWhole_whole _) cc1_scratch2 cc1_scoped0 cc1_scoped1 cc1_scoped2 cc1_scoped3 cc1_scoped4 cc1_scoped5
      cc1_scoped6 cc1_scoped7 cc1_scoped8 cc1_scoped9 cc1_scoped10 cc1_scoped11 cc1_scoped12 cc1_scoped13 cc1_scoped14 cc1_scoped15
    = chunksProg L [0, 1, 2, 3, 4, 5, 6, 7] := rfl

/-- What a subcore holds between two quarters of one chunk: the row buffer's first `n` columns are gathered. -/
abbrev quarterHold (n : ℕ) (q : PosShare TreeShare) (tbl : S16384x512.Idx → Elt F .f32) (ids : S64.Idx → Elt F .i32)
    (O : CellTallies nD τ sig (HIx 1)) (W : Waits sig (HIx 1)) : sProp 𝕄 :=
  iprop(((xV).view.loc (thr d L) ↦{q} tbl) ∗ (∃ g', ⌜RowsOK tbl ids g' n⌝ ∗ ((rV).view.loc (thr d L) ↦{fullShare} g'))
    ∗ ((sV).view.loc (thr d L) ↦{fullShare} ids) ∗ semVal (thr d L, SemLoc.dma cc1_scratch2.sem) 0
    ∗ ∃ W', ⌜∀ p ∈ W', p ∈ W ∨ p.2 = none⌝ ∗ owes (thr d L) O W')

/-- One quarter, with what follows it. -/
theorem quarter_k (n : ℕ) (h2 : ∀ a, (![0, n] : Fin 2 → ℕ) a + S16384x128.size a ≤ S16384x512.size a)
    (h6 : ∀ a, (![0, n] : Fin 2 → ℕ) a + S64x128.size a ≤ S64x512.size a)
    (q : PosShare TreeShare) (tbl : S16384x512.Idx → Elt F .f32) (ids : S64.Idx → Elt F .i32)
    (hin : ∀ x, (ids x).toNat < 16384) (O : CellTallies nD τ sig (HIx 1)) (W : Waits sig (HIx 1)) (hO : ∀ g, O g none = 0)
    (Φ : PUnit → sProp 𝕄) :
    iprop(levAts (K (F := F)).L (K (F := F)).lev ∗ quarterHold d L n q tbl ids O W ∗ (quarterHold d L (n + 128) q tbl ids O W -∗ Φ ⟨⟩))
      ⊢ wp frame (wpE (defs₀ (F := F)) 𝒱₀ (thr d L) none) Set.univ (quarterProg L n h2 h6) Φ := by
  iintro ⟨#Hlv, ⟨Hx, ⟨%g, %hg, Hr⟩, Hs, Hsem, ⟨%W', %hW', HO⟩⟩, Hk⟩
  iapply (wp_mono frame _ _ (Q := fun _ => iprop((((xV).view.loc (thr d L) ↦{q} tbl) ∗ (∃ g', ⌜RowsOK tbl ids g' (n + 128)⌝ ∗ ((rV).view.loc (thr d L) ↦{fullShare} g'))
            ∗ ((sV).view.loc (thr d L) ↦{fullShare} ids) ∗ semVal (thr d L, SemLoc.dma cc1_scratch2.sem) 0
            ∗ owes (thr d L) O (insert (SemLoc.dma cc1_scratch2.sem, none) W')) ∗ (quarterHold d L (n + 128) q tbl ids O W -∗ Φ ⟨⟩))) fun _ => by
      iintro ⟨⟨Hx, Hr, Hs, Hsem, HO⟩, Hk⟩
      iapply Hk
      isplitl [Hx]
      · iexact Hx
      isplitl [Hr]
      · iexact Hr
      isplitl [Hs]
      · iexact Hs
      isplitl [Hsem]
      · iexact Hsem
      iexists (insert (SemLoc.dma cc1_scratch2.sem, none) W')
      isplitr [HO]
      · ipureintro
        intro p hp
        rcases Finset.mem_insert.mp hp with h | h
        · exact .inr (by rw [h])
        · exact hW' p h
      · iexact HO)
  iapply (wp_frame_r frame)
  isplitr [Hk]
  · iapply (quarter_wp d L n h2 h6 q tbl ids g hin O W' hO hg)
    isplitr
    · iexact Hlv
    isplitl [Hx]
    · iexact Hx
    isplitl [Hr]
    · iexact Hr
    isplitl [Hs]
    · iexact Hs
    isplitl [Hsem]
    · iexact Hsem
    iexact HO
  · iexact Hk

/-- `out` holds, at every row, the table's row that the list names for it. -/
def OutOK (tbl : S16384x512.Idx → Elt F .f32) (ids : S16384.Idx → Elt F .i32) (out : S16384x512.Idx → Elt F .f32) : Prop :=
  ∀ (x y : S16384x512.Idx) (z : S16384.Idx), (z 0).val = (x 0).val → (y 0).val = (ids z).toNat → (y 1).val = (x 1).val → out x = tbl y

omit [FloatOps F] in
/-- What the chunk writes out is `out`, on the chunk. -/
theorem chunk_value (r : Fin 8) (tbl : S16384x512.Idx → Elt F .f32) (ids : S16384.Idx → Elt F .i32) (out fo : S16384x512.Idx → Elt F .f32)
    (g : S64x512.Idx → Elt F .f32) (hids : ∀ x, (ids x).toNat < 16384) (hout : OutOK tbl ids out)
    (hg : RowsOK tbl ((ichunkK L r).view.read (Elt F) ids) g 512) :
    ∀ i ∈ (ochunkK L r).view.set, (ochunkK L r).view.writes (Elt F) fo [⟨Rect.whole S64x512, g⟩] i = out i := by
  intro i hi
  obtain ⟨x, -, rfl⟩ := Finset.mem_map.mp hi
  have hx := View.read_writes_cons_hit_of_coords (Val := Elt F) (ochunkK L r).view fo (Rect.whole S64x512) g [] x x (fun a => by
    show (x a).val = 0 + 1 * (x a).val; omega)
  rw [View.read_apply, cast_eq] at hx
  rw [hx]
  let z' : S64.Idx := fun a => match a with | 0 => (x 0 : Fin 64)
  let z : S16384.Idx := (ichunkK L r).view.emb z'
  let y : S16384x512.Idx := fun a => match a with | 0 => ⟨(ids z).toNat, hids z⟩ | 1 => x 1
  rw [hg x y z' (x 1).isLt rfl rfl rfl]
  refine (hout _ y z ?_ rfl ?_).symm
  · show k1_off1 L (BitVec.ofNat 32 r.val) 0 + 1 * (x 0).val = k1_off2 L (BitVec.ofNat 32 r.val) 0 + 1 * (x 0).val
    rw [k1_off1_eq, k1_off2_eq]; rfl
  · show (x 1).val = k1_off2 L (BitVec.ofNat 32 r.val) 1 + 1 * (x 1).val
    rw [k1_off2_eq]; simp

omit [FloatOps F] in
/-- Three of the subcore's own semaphores out of all of them, and back. -/
theorem ownSems0_three (sA sB : DmaSems sig S_)
    (hA : (SemLoc.dma sA.sem : SemLoc sig).isScoped .scVector = true) (hB : (SemLoc.dma sB.sem : SemLoc sig).isScoped .scVector = true)
    (hAB : sA.sem ≠ sB.sem) (hAG : sA.sem ≠ cc1_scratch2.sem) (hBG : sB.sem ≠ cc1_scratch2.sem) :
    ∃ R : sProp 𝕄, (ownSems0 (thr d L) : sProp 𝕄)
      = iprop(semVal (thr d L, .dma sA.sem) 0 ∗ semVal (thr d L, .dma sB.sem) 0 ∗ semVal (thr d L, .dma cc1_scratch2.sem) 0 ∗ R) := by
  have hG : (SemLoc.dma cc1_scratch2.sem : SemLoc sig).isScoped .scVector = true := by decide
  refine ⟨bigSep ((((ownCells (sig := sig) (thr d L)).erase (thr d L, SemLoc.dma sA.sem)).erase (thr d L, SemLoc.dma sB.sem)).erase (thr d L, SemLoc.dma cc1_scratch2.sem))
    (fun g => semVal g 0), ?_⟩
  unfold SparseCore.Cfg.ownSems0
  rw [SparseCore.bigSep_erase' ((mem_ownCells (g := (thr d L, SemLoc.dma sA.sem))).mpr ⟨rfl, hA⟩),
    SparseCore.bigSep_erase' (Finset.mem_erase.mpr ⟨by simpa using fun h => hAB h.symm, (mem_ownCells (g := (thr d L, SemLoc.dma sB.sem))).mpr ⟨rfl, hB⟩⟩),
    SparseCore.bigSep_erase' (Finset.mem_erase.mpr ⟨by simpa using fun h => hBG h.symm, Finset.mem_erase.mpr ⟨by simpa using fun h => hAG h.symm,
      (mem_ownCells (g := (thr d L, SemLoc.dma cc1_scratch2.sem))).mpr ⟨rfl, hG⟩⟩⟩)]

omit [FloatOps F] in
/-- The two scratch buffers out of the subcore's own, and back. -/
theorem ownBufs_two : ∃ R : sProp 𝕄, (ownBufs (thr d L) : sProp 𝕄)
      = iprop((∃ f, (sV).view.loc (thr d L) ↦{fullShare} f) ∗ (∃ f, (rV).view.loc (thr d L) ↦{fullShare} f) ∗ R) := by
  refine ⟨bigSep (((ownRefs (sig := sig) (τ := τ) (Proc.scVector (cV L) (jV L))).erase ((Proc.scVector (cV L) (jV L)).devRef cc1_scratch0)).erase ((Proc.scVector (cV L) (jV L)).devRef cc1_scratch1))
    (fun b => iprop(∃ f, (d, b) ↦{fullShare} f)), ?_⟩
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What a subcore holds between chunks. -/
abbrev tileHold (q : PosShare TreeShare) (tbl : S16384x512.Idx → Elt F .f32) (ids : S16384.Idx → Elt F .i32)
    (O : CellTallies nD τ sig (HIx 1)) (W : Waits sig (HIx 1)) : sProp 𝕄 :=
  iprop(((xV).view.loc (thr d L) ↦{q} tbl) ∗ ((iV).view.loc (thr d L) ↦{q} ids) ∗ ownBufs (thr d L) ∗ ownSems0 (thr d L)
    ∗ ∃ W', ⌜∀ p ∈ W', p ∈ W ∨ p.2 = none⌝ ∗ owes (thr d L) O W')

set_option maxHeartbeats 4000000 in
theorem chunk_wp (r : Fin 8) (sA sB : DmaSems sig S_)
    (hA : (SemLoc.dma sA.sem : SemLoc sig).isScoped .scVector = true) (hB : (SemLoc.dma sB.sem : SemLoc sig).isScoped .scVector = true)
    (hAB : sA.sem ≠ sB.sem) (hAG : sA.sem ≠ cc1_scratch2.sem) (hBG : sB.sem ≠ cc1_scratch2.sem)
    (q : PosShare TreeShare) (tbl : S16384x512.Idx → Elt F .f32) (ids : S16384.Idx → Elt F .i32) (out fo : S16384x512.Idx → Elt F .f32)
    (hids : ∀ x, (ids x).toNat < 16384) (hout : OutOK tbl ids out)
    (O : CellTallies nD τ sig (HIx 1)) (W : Waits sig (HIx 1)) (hO : ∀ g, O g none = 0) :
    iprop(levAts (K (F := F)).L (K (F := F)).lev ∗ ((ochunkK L r).view.loc (thr d L) ↦[(ochunkK L r).view.set]{fullShare} fo) ∗ tileHold d L q tbl ids O W)
      ⊢ wp frame (wpE (defs₀ (F := F)) 𝒱₀ (thr d L) none) Set.univ (chunkProg L r sA sB)
          fun _ => (iprop(((ochunkK L r).view.loc (thr d L) ↦[(ochunkK L r).view.set]{fullShare} out) ∗ tileHold d L q tbl ids O W) : sProp 𝕄) := by
  obtain ⟨Rs, hRs⟩ := ownSems0_three (F := F) d L sA sB hA hB hAB hAG hBG
  obtain ⟨Rb, hRb⟩ := ownBufs_two (F := F) d L
  unfold tileHold
  rw [hRs, hRb]
  iintro ⟨#Hlv, Ho, Hx, Hi, ⟨⟨%fs, Hs⟩, ⟨%fr, Hr⟩, Hbufs⟩, ⟨HsemA, HsemB, HsemG, Hsems⟩, ⟨%W', %hW', HO⟩⟩
  ihave Hmw := (show levAts (K (F := F)).L (K (F := F)).lev ⊢ Transfers.MayWaits (thr d L) (none : HIx 1) O from
    (K (F := F)).mayWaits_none (thr := thr d L) hO) $$ Hlv
  unfold chunkProg
  sl_exec
  have hlst : (View.write (Elt F) (sV).view fs (chunk_wp.sl.dma0 L r ids) Finset.univ : S64.Idx → Elt F .i32) = (ichunkK L r).view.read (Elt F) ids :=
    View.write_whole_univ _ _ _
  rw [hlst]
  have hin : ∀ x, ((ichunkK L r).view.read (Elt F) ids x).toNat < 16384 := fun x => hids _
  ihave Hq := (show iprop(((xV).view.loc (thr d L) ↦{q} tbl) ∗ ((rV).view.loc (thr d L) ↦{fullShare} fr)
      ∗ ((sV).view.loc (thr d L) ↦{fullShare} ((ichunkK L r).view.read (Elt F) ids)) ∗ semVal (thr d L, SemLoc.dma cc1_scratch2.sem) 0
      ∗ owes (thr d L) O (insert (SemLoc.dma sA.sem, none) W')) ⊢ quarterHold d L 0 q tbl ((ichunkK L r).view.read (Elt F) ids) O W from by
    iintro ⟨Hx, Hr, Hs, Hsem, HO⟩
    isplitl [Hx]
    · iexact Hx
    isplitl [Hr]
    · iexists fr
      isplitr
      · ipureintro
        exact fun _ _ _ h => absurd h (Nat.not_lt_zero _)
      · iexact Hr
    isplitl [Hs]
    · iexact Hs
    isplitl [Hsem]
    · iexact Hsem
    iexists (insert (SemLoc.dma sA.sem, none) W')
    isplitr [HO]
    · ipureintro
      intro p hp
      rcases Finset.mem_insert.mp hp with h | h
      · exact .inr (by rw [h])
      · exact hW' p h
    · iexact HO) $$ [Hx Hr Hs HsemG HO]
  · isplitl [Hx]
    · iexact Hx
    isplitl [Hr]
    · iexact Hr
    isplitl [Hs]
    · iexact Hs
    isplitl [HsemG]
    · iexact HsemG
    iexact HO
  iapply (quarter_k d L 0 _ _ q tbl _ hin O W hO)
  isplitr
  · iexact Hlv
  isplitl [Hq]
  · iexact Hq
  iintro Hq
  beta_reduce
  rw [wp_bind]
  iapply (quarter_k d L 128 _ _ q tbl _ hin O W hO)
  isplitr
  · iexact Hlv
  isplitl [Hq]
  · iexact Hq
  iintro Hq
  beta_reduce
  rw [wp_bind]
  iapply (quarter_k d L 256 _ _ q tbl _ hin O W hO)
  isplitr
  · iexact Hlv
  isplitl [Hq]
  · iexact Hq
  iintro Hq
  beta_reduce
  rw [wp_bind]
  iapply (quarter_k d L 384 _ _ q tbl _ hin O W hO)
  isplitr
  · iexact Hlv
  isplitl [Hq]
  · iexact Hq
  iintro ⟨Hx, ⟨%g, %hg, Hr⟩, Hs, HsemG, ⟨%W₂, %hW₂, HO⟩⟩
  beta_reduce
  sl_exec
  sl_step
  ihave Ho := (show ((ochunkK L r).view.loc (thr d L) ↦[(ochunkK L r).view.set]{fullShare}
      ((ochunkK L r).view.writes (Elt F) fo [⟨Rect.whole S64x512, chunk_wp.sl.dma0_1 g⟩]) : sProp 𝕄)
      ⊢ ((ochunkK L r).view.loc (thr d L) ↦[(ochunkK L r).view.set]{fullShare} out) from
    BI.BIBase.Entails.of_eq (pointsTo_congr (chunk_value L r tbl ids out fo g hids hout hg))) $$ Ho
  isplitl [Ho]
  · iexact Ho
  isplitl [Hx]
  · iexact Hx
  isplitl [Hi]
  · iexact Hi
  isplitl [Hs Hr Hbufs]
  · isplitl [Hs]
    · iexists _
      iexact Hs
    isplitl [Hr]
    · iexists _
      iexact Hr
    iexact Hbufs
  isplitl [HsemA HsemB HsemG Hsems]
  · isplitl [HsemA]
    · iexact HsemA
    isplitl [HsemB]
    · iexact HsemB
    isplitl [HsemG]
    · iexact HsemG
    iexact Hsems
  iexists (insert (SemLoc.dma sB.sem, default) W₂)
  isplitr [HO]
  · ipureintro
    intro p hp
    rcases Finset.mem_insert.mp hp with h | h
    · exact .inr (by rw [h]; rfl)
    · exact hW₂ p h
  · iexact HO

/-! ## All eight chunks -/

theorem semA_scoped (r : Fin 8) : (SemLoc.dma (semA r).sem : SemLoc sig).isScoped .scVector = true := by revert r; decide
theorem semB_scoped (r : Fin 8) : (SemLoc.dma (semB r).sem : SemLoc sig).isScoped .scVector = true := by revert r; decide
theorem semA_ne_semB (r : Fin 8) : (semA r).sem ≠ (semB r).sem := by revert r; decide
theorem semA_ne_gather (r : Fin 8) : (semA r).sem ≠ cc1_scratch2.sem := by revert r; decide
theorem semB_ne_gather (r : Fin 8) : (semB r).sem ≠ cc1_scratch2.sem := by revert r; decide

/-- The chunks of a list, whole at `f`. -/
def chunksPts (f : S16384x512.Idx → Elt F .f32) (l : List (Fin 8)) : sProp 𝕄 :=
  bigSepL l fun r => ((ochunkK L r).view.loc (thr d L) ↦[(ochunkK L r).view.set]{fullShare} f)

theorem chunksPts_cons (f : S16384x512.Idx → Elt F .f32) (r : Fin 8) (l : List (Fin 8)) :
    (chunksPts d L f (r :: l) : sProp 𝕄) = iprop(((ochunkK L r).view.loc (thr d L) ↦[(ochunkK L r).view.set]{fullShare} f) ∗ chunksPts d L f l) :=
  bigSepL_cons _ _ _

theorem chunks_wp (q : PosShare TreeShare) (tbl : S16384x512.Idx → Elt F .f32) (ids : S16384.Idx → Elt F .i32) (out fo : S16384x512.Idx → Elt F .f32)
    (hids : ∀ x, (ids x).toNat < 16384) (hout : OutOK tbl ids out)
    (O : CellTallies nD τ sig (HIx 1)) (W : Waits sig (HIx 1)) (hO : ∀ g, O g none = 0) (l : List (Fin 8)) :
    iprop(levAts (K (F := F)).L (K (F := F)).lev ∗ chunksPts d L fo l ∗ tileHold d L q tbl ids O W)
      ⊢ wp frame (wpE (defs₀ (F := F)) 𝒱₀ (thr d L) none) Set.univ (chunksProg L l)
          fun _ => (iprop(chunksPts d L out l ∗ tileHold d L q tbl ids O W) : sProp 𝕄) := by
  induction l with
  | nil =>
    iintro ⟨-, Hc, Ht⟩
    unfold chunksProg
    sl_step
    isplitl [Hc]
    · iexact Hc
    · iexact Ht
  | cons r l ih =>
    unfold chunksProg
    rw [chunksPts_cons, chunksPts_cons]
    iintro ⟨#Hlv, ⟨Ho, Hc⟩, Ht⟩
    rw [wp_bind]
    iapply (wp_mono frame _ _ (Q := fun _ => iprop((((ochunkK L r).view.loc (thr d L) ↦[(ochunkK L r).view.set]{fullShare} out) ∗ tileHold d L q tbl ids O W)
        ∗ (levAts (K (F := F)).L (K (F := F)).lev ∗ chunksPts d L fo l))) fun _ => by
      iintro ⟨⟨Ho, Ht⟩, #Hlv, Hc⟩
      iapply (wp_mono frame _ _ (Q := fun _ => iprop((chunksPts d L out l ∗ tileHold d L q tbl ids O W)
        ∗ ((ochunkK L r).view.loc (thr d L) ↦[(ochunkK L r).view.set]{fullShare} out))) fun _ => by
          iintro ⟨⟨Hc, Ht⟩, Ho⟩
          isplitr [Ht]
          · isplitl [Ho]
            · iexact Ho
            · iexact Hc
          · iexact Ht)
      iapply (wp_frame_r frame)
      isplitr [Ho]
      · iapply ih
        isplitr
        · iexact Hlv
        isplitl [Hc]
        · iexact Hc
        · iexact Ht
      · iexact Ho)
    iapply (wp_frame_r frame)
    isplitr [Hc]
    · iapply (chunk_wp d L r (semA r) (semB r) (semA_scoped r) (semB_scoped r) (semA_ne_semB r) (semA_ne_gather r) (semB_ne_gather r)
        q tbl ids out fo hids hout O W hO)
      isplitr
      · iexact Hlv
      isplitl [Ho]
      · iexact Ho
      · iexact Ht
    · isplitr
      · iexact Hlv
      · iexact Hc

end Cert.Proof.Seg

end
-- ==== Proof.ScLaunch.lean ====
module

public import proofs.«01_k».proof.Proof.ScTile

/-! The SparseCore call's payloads: what each subcore receives and gives back, and how the whole arrays split into them. -/

@[expose] public section

set_option maxRecDepth 16384

noncomputable section

namespace Cert.Proof.Seg

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_v8_scv : Memref Cert.KernelIdeal.sig Kind.scVector Space.hbm Cert.KernelIdeal.S16384x512 EltTy.f32)
local notation "iV" => (Memref.whole Cert.KernelIdeal.main_v9_scv : Memref Cert.KernelIdeal.sig Kind.scVector Space.hbm Cert.KernelIdeal.S16384 EltTy.i32)
local notation "oV" => (Memref.whole Cert.KernelIdeal.main_v10_scv : Memref Cert.KernelIdeal.sig Kind.scVector Space.hbm Cert.KernelIdeal.S16384x512 EltTy.f32)
local notation "sV" => (Memref.whole Cert.KernelIdeal.cc1_scratch0 : Memref Cert.KernelIdeal.sig Kind.scVector Space.vmem Cert.KernelIdeal.S64 EltTy.i32)
local notation "rV" => (Memref.whole Cert.KernelIdeal.cc1_scratch1 : Memref Cert.KernelIdeal.sig Kind.scVector Space.vmem Cert.KernelIdeal.S64x512 EltTy.f32)

/-! ## Which chunk and which share a subcore has -/

/-- Chunk `r` of subcore `i` of SparseCore `c`, among the 256 chunks. -/
def chunkNo (c : Fin 2) (i : Fin 16) (r : Fin 8) : Fin 256 := ⟨16 * i.val + 8 * c.val + r.val, by omega⟩

/-- The subcore's share of an array that all of them read. -/
def shr (c : Fin 2) (i : Fin 16) : PosShare TreeShare :=
  pieceOf (pieceOf fullShare 2 (by decide) c) 16 (by decide) i

/-- The 256 chunks are the subcores' eight each. -/
def chunkEquiv : (Fin 2 × Fin 16) × Fin 8 ≃ Fin 256 where
  toFun p := chunkNo p.1.1 p.1.2 p.2
  invFun k := ((⟨k.val / 8 % 2, by omega⟩, ⟨k.val / 16, by omega⟩), ⟨k.val % 8, by omega⟩)
  left_inv p := by
    obtain ⟨⟨c, i⟩, r⟩ := p
    refine Prod.ext (Prod.ext (Fin.ext ?_) (Fin.ext ?_)) (Fin.ext ?_)
    · show (16 * i.val + 8 * c.val + r.val) / 8 % 2 = c.val; omega
    · show (16 * i.val + 8 * c.val + r.val) / 16 = i.val; omega
    · show (16 * i.val + 8 * c.val + r.val) % 8 = r.val; omega
  right_inv k := Fin.ext (show 16 * (k.val / 16) + 8 * (k.val / 8 % 2) + k.val % 8 = k.val by omega)

theorem osets_disjoint : ∀ i ∈ (Finset.univ : Finset (Fin 256)), ∀ j ∈ (Finset.univ : Finset (Fin 256)), i ≠ j → Disjoint (oset i) (oset j) :=
  fun _ _ _ _ h => Rect.part_disjoint odiv h
theorem osets_cover : (Finset.univ : Finset (Fin 256)).biUnion oset = Finset.univ := Rect.biUnion_part odiv

theorem oPts_split (d : Dev nD) (f : Buf (Elt F) (oLoc d)) :
    (oLoc d ↦{fullShare} f : sProp 𝕄)
      = bigSep Finset.univ fun c : Fin 2 => bigSep Finset.univ fun i : Fin 16 => bigSep Finset.univ fun r : Fin 8 => oLoc d ↦[oset (chunkNo c i r)]{fullShare} f := by
  have h : (oLoc d ↦{fullShare} f : sProp 𝕄) = bigSep Finset.univ fun k : Fin 256 => oLoc d ↦[oset k]{fullShare} f := by
    rw [← pointsTo_biUnion Finset.univ (ℓ := oLoc d) oset osets_disjoint, osets_cover]; try rfl
  rw [h, bigSep_univ_equiv chunkEquiv, bigSep_univ_prod, bigSep_univ_prod]
  rfl

theorem xPts_split (d : Dev nD) (f : Buf (Elt F) (xLoc d)) :
    (xLoc d ↦{fullShare} f : sProp 𝕄) = bigSep Finset.univ fun c : Fin 2 => bigSep Finset.univ fun i : Fin 16 => xLoc d ↦{shr c i} f := by
  rw [pointsTo_piecesOf Finset.univ f (by decide : 0 < 2) fullShare]
  exact bigSep_congr fun c _ => pointsTo_piecesOf Finset.univ f (by decide : 0 < 16) _

theorem iPts_split (d : Dev nD) (f : Buf (Elt F) (iLoc d)) :
    (iLoc d ↦{fullShare} f : sProp 𝕄) = bigSep Finset.univ fun c : Fin 2 => bigSep Finset.univ fun i : Fin 16 => iLoc d ↦{shr c i} f := by
  rw [pointsTo_piecesOf Finset.univ f (by decide : 0 < 2) fullShare]
  exact bigSep_congr fun c _ => pointsTo_piecesOf Finset.univ f (by decide : 0 < 16) _

/-! ## The payloads -/

section Payloads

variable (idsV : Dev nD → S16384.Idx → Elt F .i32) (outV fo : Dev nD → S16384x512.Idx → Elt F .f32)

/-- What a subcore receives: a share of a table whose rows, at the row numbers, are `outV`; a share of the row numbers; its chunks. -/
def goT (d : Dev nD) (c : Fin 2) (i : Fin 16) : sProp 𝕄 :=
  iprop(∃ tbl : Buf (Elt F) (xLoc d), ⌜OutOK tbl (idsV d) (outV d)⌝ ∗ (xLoc d ↦{shr c i} tbl) ∗ (iLoc d ↦{shr c i} idsV d)
    ∗ bigSep Finset.univ fun r : Fin 8 => oLoc d ↦[oset (chunkNo c i r)]{fullShare} fo d)

/-- What it gives back: its chunks, holding `outV`. -/
def tdT (d : Dev nD) (c : Fin 2) (i : Fin 16) : sProp 𝕄 :=
  bigSep Finset.univ fun r : Fin 8 => oLoc d ↦[oset (chunkNo c i r)]{fullShare} outV d

instance goT_storable (d : Dev nD) (c : Fin 2) (i : Fin 16) : BI.Storable (upEmb : UEmb _ 𝕄) (goT idsV outV fo d c i) := by
  unfold goT; infer_instance
instance tdT_storable (d : Dev nD) (c : Fin 2) (i : Fin 16) : BI.Storable (upEmb : UEmb _ 𝕄) (tdT (F := F) outV d c i) := by
  unfold tdT; infer_instance

def P : (K (F := F)).Pay (nD := nD) (Val := Elt F) (Name := ℕ) (U := UU) where
  st := fun q d c => match q with | 0 => bigSep Finset.univ fun i : Fin 16 => goT idsV outV fo d (Fin.cast nCore_zero c) i
  dn := fun q d c => match q with | 0 => bigSep Finset.univ fun i : Fin 16 => tdT outV d (Fin.cast nCore_zero c) i
  go := fun q d c i => match q with | 0 => goT idsV outV fo d (Fin.cast nCore_zero c) (Fin.cast nSub_zero i)
  td := fun q d c i => match q with | 0 => tdT outV d (Fin.cast nCore_zero c) (Fin.cast nSub_zero i)
  x := fun _ _ => iprop(emp)

instance P_storable : (P (F := F) idsV outV fo).IsStorable where
  st q d c := match q with
    | 0 => (inferInstance : BI.Storable (upEmb : UEmb _ 𝕄) (bigSep Finset.univ fun i : Fin 16 => goT idsV outV fo d (Fin.cast nCore_zero c) i))
  dn q d c := match q with
    | 0 => (inferInstance : BI.Storable (upEmb : UEmb _ 𝕄) (bigSep Finset.univ fun i : Fin 16 => tdT outV d (Fin.cast nCore_zero c) i))
  go q d c i := match q with
    | 0 => (inferInstance : BI.Storable (upEmb : UEmb _ 𝕄) (goT idsV outV fo d (Fin.cast nCore_zero c) (Fin.cast nSub_zero i)))
  td q d c i := match q with
    | 0 => (inferInstance : BI.Storable (upEmb : UEmb _ 𝕄) (tdT outV d (Fin.cast nCore_zero c) (Fin.cast nSub_zero i)))

theorem vecSplit : (K (F := F)).VecSplit' (P idsV outV fo) 0 := by
  intro d c
  show (bigSep Finset.univ fun i : Fin 16 => goT idsV outV fo d (Fin.cast nCore_zero c) i) ⊢ |={Set.univ}=> iprop(
      (bigSep Finset.univ fun i : Fin 16 => goT idsV outV fo d (Fin.cast nCore_zero c) i)
      ∗ ((bigSep Finset.univ fun i : Fin 16 => tdT outV d (Fin.cast nCore_zero c) i)
          -∗ bigSep Finset.univ fun i : Fin 16 => tdT outV d (Fin.cast nCore_zero c) i))
  iintro H
  imodintro
  isplitl [H]
  · iexact H
  iintro H
  iexact H

theorem goT_intro (d : Dev nD) (c : Fin 2) (i : Fin 16) (tbl : Buf (Elt F) (xLoc d)) (htbl : OutOK tbl (idsV d) (outV d)) :
    iprop((xLoc d ↦{shr c i} tbl) ∗ (iLoc d ↦{shr c i} idsV d) ∗ bigSep Finset.univ fun r : Fin 8 => oLoc d ↦[oset (chunkNo c i r)]{fullShare} fo d)
      ⊢ (goT idsV outV fo d c i : sProp 𝕄) := by
  unfold goT
  iintro ⟨Hx, Hi, Ho⟩
  iexists tbl
  isplitr
  · ipureintro
    exact htbl
  isplitl [Hx]
  · iexact Hx
  isplitl [Hi]
  · iexact Hi
  iexact Ho

/-- The arrays the call takes, whole, are the subcores' payloads. -/
theorem st_intro (d : Dev nD) (tbl : Buf (Elt F) (xLoc d)) (htbl : OutOK tbl (idsV d) (outV d)) :
    iprop((xLoc d ↦{fullShare} tbl) ∗ (iLoc d ↦{fullShare} idsV d) ∗ (oLoc d ↦{fullShare} fo d))
      ⊢ (bigSep Finset.univ fun c : Fin ((K (F := F)).nCore 0) => (P idsV outV fo).st 0 d c : sProp 𝕄) := by
  show _ ⊢ (bigSep Finset.univ fun c : Fin 2 => bigSep Finset.univ fun i : Fin 16 => goT idsV outV fo d c i : sProp 𝕄)
  rw [xPts_split, iPts_split, oPts_split, ← bigSep_sep', ← bigSep_sep']
  refine bigSep_mono fun c _ => ?_
  rw [← bigSep_sep', ← bigSep_sep']
  exact bigSep_mono fun i _ => goT_intro idsV outV fo d c i tbl htbl

/-- What the subcores give back is the gathered rows, whole. -/
theorem dn_elim (d : Dev nD) :
    (bigSep Finset.univ fun c : Fin ((K (F := F)).nCore 0) => (P idsV outV fo).dn 0 d c : sProp 𝕄) ⊢ (oLoc d ↦{fullShare} outV d) := by
  rw [oPts_split]
  exact .rfl

end Payloads

/-! ## The subcore's obligation -/

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__decompress_body (coordsV c s)
          xV (Memref.isWhole_whole _) iV (Memref.isWhole_whole _) oV (Memref.isWhole_whole _)
          sV (Memref.isWhole_whole _) rV (Memref.isWhole_whole _) cc1_scratch2 cc1_scoped0 cc1_scoped1 cc1_scoped2 cc1_scoped3 cc1_scoped4 cc1_scoped5
      cc1_scoped6 cc1_scoped7 cc1_scoped8 cc1_scoped9 cc1_scoped10 cc1_scoped11 cc1_scoped12 cc1_scoped13 cc1_scoped14 cc1_scoped15) ⟨⟩ c s := rfl

theorem ochunkK_set (L : grid1.Coords) (r : Fin 8) :
    (ochunkK L r).view.set = oset (chunkNo ⟨(L 0).val, (L 0).isLt⟩ ⟨(L 1).val, (L 1).isLt⟩ r) := by
  have h : (ochunkK L r).view.set = (Rect.unit (s := S16384x512) (k1_off2 L (BitVec.ofNat 32 r.val)) S64x512.size (k1_off2_inb L r)).set := by
    show ((View.whole (main_v10_scv : Ref sig .scVector)).slice _).set = _
    rw [View.set_slice]; exact Finset.map_refl
  have hr : Rect.unit (s := S16384x512) (k1_off2 L (BitVec.ofNat 32 r.val)) S64x512.size (k1_off2_inb L r)
      = ochunk (chunkNo ⟨(L 0).val, (L 0).isLt⟩ ⟨(L 1).val, (L 1).isLt⟩ r) := by
    unfold ochunk Rect.part Rect.block
    congr 1 <;> funext a
    · rw [k1_off2_eq]
      match a with
      | 0 => simp [Shape.partIx, Shape.partSize, chunkNo]; omega
      | 1 => simp [Shape.partIx, Shape.partSize]
    · match a with
      | 0 => simp [Shape.partSize]
      | 1 => simp [Shape.partSize]
  rw [h, hr]

theorem chunksPts_eq (d : Dev nD) (L : grid1.Coords) (f : S16384x512.Idx → Elt F .f32) :
    (chunksPts d L f [0, 1, 2, 3, 4, 5, 6, 7] : sProp 𝕄)
      = bigSep Finset.univ fun r : Fin 8 => oLoc d ↦[oset (chunkNo ⟨(L 0).val, (L 0).isLt⟩ ⟨(L 1).val, (L 1).isLt⟩ r)]{fullShare} f := by
  rw [bigSep_univ_eq_bigSepL [0, 1, 2, 3, 4, 5, 6, 7] (by decide) (by decide)]
  unfold chunksPts
  exact congrArg (bigSepL _) (funext fun r => show ((oLoc d) ↦[(ochunkK L r).view.set]{fullShare} f : sProp 𝕄) = _ by rw [ochunkK_set])

set_option maxRecDepth 65536 in
theorem tile_wp (idsV : Dev nD → S16384.Idx → Elt F .i32) (outV fo : Dev nD → S16384x512.Idx → Elt F .f32)
    (hids : ∀ d x, (idsV d x).toNat < 16384) (d : Dev nD) (L : grid1.Coords)
    (O : CellTallies nD τ sig (HIx 1)) (W : Waits sig (HIx 1)) (hO : ∀ g, O g none = 0) :
    iprop(levAts (K (F := F)).L (K (F := F)).lev ∗ emp
        ∗ goT idsV outV fo d ⟨(L 0).val, (L 0).isLt⟩ ⟨(L 1).val, (L 1).isLt⟩
        ∗ scopedBufs (thr d L) ∗ scopedSems0 (thr d L) ∗ owes (thr d L) O W)
      ⊢ wp frame (wpE (defs₀ (F := F)) 𝒱₀ (thr d L) none) Set.univ
          (cc1__decompress_body L xV (Memref.isWhole_whole _) iV (Memref.isWhole_whole _) oV (Memref.isWhole_whole _)
            sV (Memref.isWhole_whole _) rV (Memref.isWhole_whole _) cc1_scratch2 cc1_scoped0 cc1_scoped1 cc1_scoped2 cc1_scoped3 cc1_scoped4 cc1_scoped5
            cc1_scoped6 cc1_scoped7 cc1_scoped8 cc1_scoped9 cc1_scoped10 cc1_scoped11 cc1_scoped12 cc1_scoped13 cc1_scoped14 cc1_scoped15)
          fun _ => (iprop(tdT outV d ⟨(L 0).val, (L 0).isLt⟩ ⟨(L 1).val, (L 1).isLt⟩
            ∗ scopedBufs (thr d L) ∗ scopedSems0 (thr d L)
            ∗ ∃ W', ⌜∀ p ∈ W', p ∈ W ∨ p.2 = none ∨ p.2 = some (0 : Fin 1)⌝ ∗ owes (thr d L) O W') : sProp 𝕄) := by
  rw [(K (F := F)).scopedBufs_V facts d (cV L) (jV L), SparseCore.Cfg.scopedSems0_V (Val := Elt F) d (cV L) (jV L), body_eq_chunks]
  unfold goT tdT
  rw [← chunksPts_eq d L (fo d), ← chunksPts_eq d L (outV d)]
  iintro ⟨#Hlv, -, ⟨%tbl, %htbl, Hx, Hi, Ho⟩, Hbufs, Hsems, HO⟩
  iapply (wp_mono frame _ _ (Q := fun _ => iprop(chunksPts d L (outV d) [0, 1, 2, 3, 4, 5, 6, 7]
      ∗ tileHold d L (shr ⟨(L 0).val, (L 0).isLt⟩ ⟨(L 1).val, (L 1).isLt⟩) tbl (idsV d) O W)) fun _ => by
    iintro ⟨Ho, -, -, Hbufs, Hsems, ⟨%W', %hW', HO⟩⟩
    isplitl [Ho]
    · iexact Ho
    isplitl [Hbufs]
    · iexact Hbufs
    isplitl [Hsems]
    · iexact Hsems
    iexists W'
    isplitr
    · ipureintro
      exact fun p hp => (hW' p hp).imp_right Or.inl
    · iexact HO)
  iapply (chunks_wp d L _ tbl (idsV d) (outV d) (fo d) (hids d) htbl O W hO _)
  isplitr
  · iexact Hlv
  isplitl [Ho]
  · iexact Ho
  isplitl [Hx]
  · iexact Hx
  isplitl [Hi]
  · iexact Hi
  isplitl [Hbufs]
  · iexact Hbufs
  isplitl [Hsems]
  · iexact Hsems
  iexists W
  isplitr
  · ipureintro
    exact fun p hp => .inl hp
  · iexact HO

theorem tileObl (idsV : Dev nD → S16384.Idx → Elt F .i32) (outV fo : Dev nD → S16384x512.Idx → Elt F .f32)
    (hids : ∀ d x, (idsV d x).toNat < 16384) : (K (F := F)).TileObl (D (F := F)) 𝒱 (P idsV outV fo) v₀ 0 := by
  intro d c i O W hO _ _
  simp only [show (P idsV outV fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_wp idsV outV fo hids d (coordsV ⟨_, hci.1⟩ ⟨_, hci.2⟩) O W hO

end Cert.Proof.Seg

end
-- ==== Proof.RunMain.lean ====
/-
  @main on the TensorCore and the program's run: the host lines, the fused kernel's region, the SparseCore's gather;
  what the run ends with is read off the contents after the last host line.
-/
module

public import proofs.«01_k».proof.Proof.FusedRegion
public import proofs.«01_k».proof.Proof.ScLaunch
public import Idealize.ShloMosaic.Lib.Pipeline.Frame

@[expose] public section

set_option maxRecDepth 16384

noncomputable section

namespace Cert.Proof.Seg

open Cert.KernelIdeal Cert.KernelIdeal.Gen
open Idealize.ShloMosaic
open Idealize.ShloMosaic.TcCoe
open Idealize.ShloMosaic.SparseCore (S V T)
open Idealize.ShloMosaic.SparseCore.Cfg (HIx)
open Idealize.ShloMosaic.Pipeline (Dat RDat ucRefs)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## The host lines -/

def opsA : List (HloOp τ sig (Elt F)) :=
  [ StableHlo.reshape main_arg1 main_v0 (rfl : (.i32 : EltTy) = .i32) shapeCasts_S8x2048_S8x2048x1,
    StableHlo.unary main_arg2 main_v1 ((truncf .bf16 · bitsLt_bf16_f32) : (⟨S512x2048, .f32⟩ : BufTy).Contents (Elt F) → (⟨S512x2048, .bf16⟩ : BufTy).Contents (Elt F)),
    StableHlo.unary main_arg4 main_v2 ((truncf .bf16 · bitsLt_bf16_f32) : (⟨S2048x512, .f32⟩ : BufTy).Contents (Elt F) → (⟨S2048x512, .bf16⟩ : BufTy).Contents (Elt F)),
    StableHlo.reshape main_arg3 main_v3 (rfl : (.f32 : EltTy) = .f32) shapeCasts_S2048_S1x2048,
    StableHlo.reshape main_arg5 main_v4 (rfl : (.f32 : EltTy) = .f32) shapeCasts_S512_S1x512,
    StableHlo.reshape main_arg6 main_v5 (rfl : (.f32 : EltTy) = .f32) shapeCasts_S512_S1x512,
    StableHlo.reshape main_arg7 main_v6 (rfl : (.f32 : EltTy) = .f32) shapeCasts_S512_S1x512 ]
def opsB : List (HloOp τ sig (Elt F)) :=
  [ StableHlo.reshape main_v7_0 main_v8 (rfl : (.f32 : EltTy) = .f32) shapeCasts_S8x2048x512_S16384x512,
    StableHlo.reshape main_v7_1 main_v9 (rfl : (.i32 : EltTy) = .i32) shapeCasts_S8x2048x1_S16384 ]
def opsC : List (HloOp τ sig (Elt F)) :=
  [ StableHlo.reshape main_v10 main_v11 (rfl : (.f32 : EltTy) = .f32) shapeCasts_S16384x512_S8x2048x512 ]

abbrev region : Prog (TpuEff nD τ sig (Elt F) (ΛP (F := F)) .tc) PUnit := .op (.customCall (Pipeline.entry 0) ()) fun _ => .ret ⟨⟩

theorem main_eq (d : Dev nD) : main (F := F) d = (StableHlo.seq opsA >>= fun _ =>
    SparseCore.liftProg region >>= fun _ =>
    StableHlo.seq opsB >>= fun _ => (K (F := F)).run d 0 >>= fun _ => StableHlo.seq opsC >>= fun u => pure u) := by
  simp only [opsA, opsB, opsC, StableHlo.seq, bind_assoc, pure_bind]
  rfl

theorem hsA : ∀ op ∈ (opsA (F := F)), op.bufs ⊆ ucRefs τ sig := by
  have h : (opsA (F := F)).Forall fun op => op.bufs ⊆ StableHlo.tcRefs τ sig := by simp [opsA]
  exact fun op ho => Pipeline.sub_ucRefs op (List.forall_iff_forall_mem.mp h op ho)
theorem hsB : ∀ op ∈ (opsB (F := F)), op.bufs ⊆ ucRefs τ sig := by
  have h : (opsB (F := F)).Forall fun op => op.bufs ⊆ StableHlo.tcRefs τ sig := by simp [opsB]
  exact fun op ho => Pipeline.sub_ucRefs op (List.forall_iff_forall_mem.mp h op ho)
theorem hfA : ∀ op ∈ (opsA (F := F)), op.fresh = ∅ := by
  have h : (opsA (F := F)).Forall fun op => op.fresh = ∅ := by exact ⟨rfl, rfl, rfl, rfl, rfl, rfl, rfl⟩
  exact List.forall_iff_forall_mem.mp h
theorem hfB : ∀ op ∈ (opsB (F := F)), op.fresh = ∅ := by
  have h : (opsB (F := F)).Forall fun op => op.fresh = ∅ := by exact ⟨rfl, rfl⟩
  exact List.forall_iff_forall_mem.mp h
theorem hfC : ∀ op ∈ (opsC (F := F)), op.fresh = ∅ := by
  have h : (opsC (F := F)).Forall fun op => op.fresh = ∅ := by exact rfl
  exact List.forall_iff_forall_mem.mp h

/-! ## The contents along the run -/

variable (m : (ℓ : Loc nD τ sig) → Buf (Elt F) ℓ) (ρ : Dev nD → PrngReg)
variable (idsV : Dev nD → S16384.Idx → Elt F .i32) (outV : Dev nD → S16384x512.Idx → Elt F .f32)

abbrev Val' (F : FTy → Type) := Valuation τ sig (Elt F)
abbrev rf (b : Ref sig .tc) : DevRef τ sig := Proc.devRef .tc b

/-- At the launch, at the region's entry, at its exit, at the gather's call, at its return, at the end. -/
abbrev V0 (d : Dev nD) : Val' F := fun b => m (d, b)
abbrev V1 (d : Dev nD) : Val' F := StableHlo.after opsA (V0 m d)
abbrev Wm : Cont F := fun c b => V1 m c (rf b)
def V2 (d : Dev nD) (W' : (b : Ref sig .tc) → Buf (Elt F) ((d : Thread nD τ).loc b)) : Val' F :=
  Function.update (Function.update (V1 m d) (rf main_v7_0) (W' main_v7_0)) (rf main_v7_1) (W' main_v7_1)
abbrev V3 (d : Dev nD) (W' : (b : Ref sig .tc) → Buf (Elt F) ((d : Thread nD τ).loc b)) : Val' F := StableHlo.after opsB (V2 m d W')
def V4 (d : Dev nD) (W' : (b : Ref sig .tc) → Buf (Elt F) ((d : Thread nD τ).loc b)) : Val' F := Function.update (V3 m d W') (rf main_v10) (outV d)
abbrev V5 (d : Dev nD) (W' : (b : Ref sig .tc) → Buf (Elt F) ((d : Thread nD τ).loc b)) : Val' F := StableHlo.after opsC (V4 m outV d W')

/-- The result. -/
def res (d : Dev nD) : S8x2048x512.Idx → Elt F .f32 := shapeCast S8x2048x512 (outV d) shapeCasts_S16384x512_S8x2048x512
def VF (d : Dev nD) : Val' F := Function.update (V0 m d) (rf main_v11) (res outV d)

/-- The program's arguments. -/
abbrev args : List (Ref sig .tc) := [main_arg0, main_arg1, main_arg2, main_arg3, main_arg4, main_arg5, main_arg6, main_arg7]

theorem V1_of_ne (d : Dev nD) (b : Ref sig .tc) (h : b ∉ [main_v0, main_v1, main_v2, main_v3, main_v4, main_v5, main_v6]) :
    V1 m d (rf b) = V0 m d (rf b) :=
  StableHlo.after_of_writes_sub opsA _ (by simp [opsA]) h

theorem V2_of_ne (d : Dev nD) (W') (b : Ref sig .tc) (h8 : b ≠ main_v7_0) (h9 : b ≠ main_v7_1) : V2 m d W' (rf b) = V1 m d (rf b) := by
  unfold V2
  rw [Function.update_of_ne (StableHlo.devRef_ne_of_ne h9), Function.update_of_ne (StableHlo.devRef_ne_of_ne h8)]
theorem V2_8 (d : Dev nD) (W') : V2 m d W' (rf main_v7_0) = W' main_v7_0 := by
  unfold V2
  rw [Function.update_of_ne (StableHlo.devRef_ne_of_ne (by decide)), Function.update_self]
theorem V2_9 (d : Dev nD) (W') : V2 m d W' (rf main_v7_1) = W' main_v7_1 := by
  unfold V2
  rw [Function.update_self]

theorem V3_of_ne (d : Dev nD) (W') (b : Ref sig .tc) (h : b ∉ [main_v8, main_v9]) : V3 m d W' (rf b) = V2 m d W' (rf b) :=
  StableHlo.after_of_writes_sub opsB _ (by simp [opsB]) h

theorem V3_8 (d : Dev nD) (W') : V3 m d W' (rf main_v8) = shapeCast S16384x512 (W' main_v7_0 : S8x2048x512.Idx → Elt F .f32) shapeCasts_S8x2048x512_S16384x512 := by
  rw [V3, opsB]
  after_results
  rw [V2_8]; rfl
theorem V3_9 (d : Dev nD) (W') : V3 m d W' (rf main_v9) = shapeCast S16384 (W' main_v7_1 : S8x2048x1.Idx → Elt F .i32) shapeCasts_S8x2048x1_S16384 := by
  rw [V3, opsB]
  after_results
  rw [V2_9]; rfl

theorem V5_of_ne (d : Dev nD) (W') (b : Ref sig .tc) (h : b ∉ [main_v11]) : V5 m outV d W' (rf b) = V4 m outV d W' (rf b) :=
  StableHlo.after_of_writes_sub opsC _ (by simp [opsC]) h
theorem V5_11 (d : Dev nD) (W') : V5 m outV d W' (rf main_v11) = res outV d := by
  rw [V5, opsC]
  after_results
  unfold V4
  rw [Function.update_self]; rfl

theorem V5_arg (d : Dev nD) (W') (b : Ref sig .tc) (h : b ∈ args) : V5 m outV d W' (rf b) = m (d, rf b) := by
  have h11 : b ∉ [main_v11] := (by decide : ∀ b ∈ args, b ∉ [main_v11]) b h
  have h10 : b ≠ main_v10 := (by decide : ∀ b ∈ args, b ≠ main_v10) b h
  have h89 : b ∉ [main_v8, main_v9] := (by decide : ∀ b ∈ args, b ∉ [main_v8, main_v9]) b h
  have h8 : b ≠ main_v7_0 := (by decide : ∀ b ∈ args, b ≠ main_v7_0) b h
  have h9 : b ≠ main_v7_1 := (by decide : ∀ b ∈ args, b ≠ main_v7_1) b h
  have h0 : b ∉ [main_v0, main_v1, main_v2, main_v3, main_v4, main_v5, main_v6] :=
    (by decide : ∀ b ∈ args, b ∉ [main_v0, main_v1, main_v2, main_v3, main_v4, main_v5, main_v6]) b h
  rw [V5_of_ne m outV d W' b h11, V4, Function.update_of_ne (StableHlo.devRef_ne_of_ne h10), V3_of_ne m d W' b h89, V2_of_ne m d W' b h8 h9,
    V1_of_ne m d b h0]

theorem V3_10 (d : Dev nD) (W') : V3 m d W' (rf main_v10) = m (oLoc d) := by
  rw [V3_of_ne m d W' _ (by decide), V2_of_ne m d W' _ (by decide) (by decide), V1_of_ne m d _ (by decide)]

/-! ## What the run ends with -/

abbrev endRefs : Finset (DevRef τ sig) := (insert main_v11 args.toFinset).image rf
abbrev callRefs : Finset (DevRef τ sig) := {rf main_v8, rf main_v9, rf main_v10}
abbrev restSet : Finset (DevRef τ sig) := ucRefs τ sig \ callRefs

theorem rf_mem {b : Ref sig .tc} (h : b.isScoped = false) : rf b ∈ ucRefs τ sig :=
  Finset.mem_filter.mpr ⟨Finset.mem_map_of_mem _ (Finset.mem_univ b), by
    rw [show (rf b).isScoped = b.isScoped from rfl, h]; decide⟩

theorem call_sub : callRefs ⊆ ucRefs τ sig := by
  intro b hb
  simp only [callRefs, Finset.mem_insert, Finset.mem_singleton] at hb
  rcases hb with rfl | rfl | rfl <;> exact rf_mem rfl

theorem rest_mem {b : Ref sig .tc} (h : b.isScoped = false) (h8 : b ≠ main_v8) (h9 : b ≠ main_v9) (h10 : b ≠ main_v10) : rf b ∈ restSet := by
  refine Finset.mem_sdiff.mpr ⟨rf_mem h, fun hb => ?_⟩
  simp only [callRefs, Finset.mem_insert, Finset.mem_singleton] at hb
  rcases hb with e | e | e
  · exact StableHlo.devRef_ne_of_ne h8 e
  · exact StableHlo.devRef_ne_of_ne h9 e
  · exact StableHlo.devRef_ne_of_ne h10 e

theorem v10_notMem : rf main_v10 ∉ restSet := fun h => (Finset.mem_sdiff.mp h).2 (by simp [callRefs])

theorem end_sub : endRefs ⊆ insert (rf main_v10) restSet := by
  intro b hb
  obtain ⟨r, hr, rfl⟩ := Finset.mem_image.mp hb
  refine Finset.mem_insert_of_mem ?_
  have := (by decide : ∀ r ∈ (insert main_v11 args.toFinset : Finset (Ref sig .tc)), r.isScoped = false ∧ r ≠ main_v8 ∧ r ≠ main_v9 ∧ r ≠ main_v10) r hr
  exact rest_mem this.1 this.2.1 this.2.2.1 this.2.2.2

theorem hsC : ∀ op ∈ (opsC (F := F)), op.bufs ⊆ insert (rf main_v10) restSet := by
  intro op ho
  obtain rfl := List.mem_singleton.mp ho
  intro b hb
  rw [StableHlo.reshape_bufs] at hb
  simp only [Finset.mem_insert, Finset.mem_singleton] at hb
  rcases hb with rfl | rfl
  · exact Finset.mem_insert_self _ _
  · exact Finset.mem_insert_of_mem (rest_mem rfl (by decide) (by decide) (by decide))

theorem V5_end (d : Dev nD) (W') : ∀ b ∈ endRefs, V5 m outV d W' b = VF m outV d b := by
  intro b hb
  obtain ⟨r, hr, rfl⟩ := Finset.mem_image.mp hb
  rcases Finset.mem_insert.mp hr with rfl | h
  · rw [V5_11, VF, Function.update_self]
  · have hl := List.mem_toFinset.mp h
    rw [V5_arg m outV d W' r hl, VF, Function.update_of_ne (StableHlo.devRef_ne_of_ne ((by decide : ∀ b ∈ args, b ≠ main_v11) r hl))]

abbrev FIN (d : Dev nD) : sProp 𝕄 := StableHlo.held (T d) endRefs (VF m outV d)

/-- What the proof asks of the launch memory's numbers: they are the region's, in range, and every table the region may
    leave has, at them, the rows `outV`. -/
structure Numbers : Prop where
  range : ∀ d x, (idsV d x).toNat < 16384
  ids : ∀ d W', Left (Wm m) d W' → V3 m d W' (rf main_v9) = idsV d
  table : ∀ d W', Left (Wm m) d W' → OutOK (V3 m d W' (rf main_v8)) (idsV d) (outV d)

theorem exit_held (d : Dev nD) (W') (h : Left (Wm m) d W') : (unscopedBufs d W' : sProp 𝕄) = StableHlo.held (T d) (ucRefs τ sig) (V2 m d W') := by
  have hW : W' = fun b => V2 m d W' (rf b) := by
    funext b
    by_cases h8 : b = main_v7_0
    · subst h8; rw [V2_8]
    by_cases h9 : b = main_v7_1
    · subst h9; rw [V2_9]
    rw [V2_of_ne m d W' b h8 h9]; exact h.same b h8 h9
  conv_lhs => rw [hW]
  exact Pipeline.unscopedBufs_held d (V2 m d W')

theorem call_held (d : Dev nD) (W' : (b : Ref sig .tc) → Buf (Elt F) ((d : Thread nD τ).loc b)) :
    (StableHlo.held (T d) (ucRefs τ sig) (V3 m d W') : sProp 𝕄)
      = iprop(((xLoc d ↦{fullShare} V3 m d W' (rf main_v8)) ∗ (iLoc d ↦{fullShare} V3 m d W' (rf main_v9)) ∗ (oLoc d ↦{fullShare} V3 m d W' (rf main_v10)))
          ∗ StableHlo.held (T d) restSet (V3 m d W')) := by
  rw [StableHlo.held_sub_split (T d) call_sub]
  congr 1
  unfold StableHlo.held callRefs
  rw [SparseCore.bigSep_insert' (by decide), SparseCore.bigSep_insert' (by decide), bigSep_singleton]

theorem back_held (d : Dev nD) (W' : (b : Ref sig .tc) → Buf (Elt F) ((d : Thread nD τ).loc b)) :
    iprop((oLoc d ↦{fullShare} outV d) ∗ StableHlo.held (T d) restSet (V3 m d W'))
      ⊢ (StableHlo.held (T d) (insert (rf main_v10) restSet) (V4 m outV d W') : sProp 𝕄) := by
  have hr : (StableHlo.held (T d) restSet (V3 m d W') : sProp 𝕄) = StableHlo.held (T d) restSet (V4 m outV d W') :=
    StableHlo.held_congr (T d) fun b hb => by
      unfold V4
      rw [Function.update_of_ne fun e => v10_notMem (by rw [← e]; exact hb)]
  rw [hr]
  conv_rhs => unfold StableHlo.held
  rw [SparseCore.bigSep_insert' v10_notMem, show V4 m outV d W' (rf main_v10) = outV d from by unfold V4; rw [Function.update_self]]
  exact .rfl

theorem end_held (d : Dev nD) (W' : (b : Ref sig .tc) → Buf (Elt F) ((d : Thread nD τ).loc b)) :
    (StableHlo.held (T d) (insert (rf main_v10) restSet) (V5 m outV d W') : sProp 𝕄) ⊢ FIN m outV d := by
  rw [StableHlo.held_sub_split (T d) end_sub, StableHlo.held_congr (T d) (V5_end m outV d W')]
  iintro ⟨H, -⟩; iexact H

theorem launch_held (d : Dev nD) : (unscopedBufs d (fun b => m ((SparseCore.T d : Thread nD τ).loc b)) : sProp 𝕄) = StableHlo.held (T d) (ucRefs τ sig) (V0 m d) :=
  Pipeline.unscopedBufs_held d (V0 m d)

/-! ## @main -/

abbrev PP := P (F := F) idsV outV fun d => m (oLoc d)

abbrev GG (d : Dev nD) : sProp 𝕄 := iprop(Pipeline.cellsGhost (Pipeline.pin (pcfgs (F := F)) adm) EP 0 d ∗ Pipeline.toksInit (Pipeline.pin (pcfgs (F := F)) adm) EP 0 d)

theorem tcSt_split (d : Dev nD) : ∃ R : sProp 𝕄, (K (F := F)).tcSt EH d 0 = iprop(owesB d ∗ R) := ⟨_, rfl⟩

theorem reg_pre [∀ e, Nonempty (Elt F e)] (d : Dev nD) :
    (reg (Wm m)).pre d = iprop(StableHlo.held (T d) (ucRefs τ sig) (V1 m d) ∗ owesB d) := by
  rw [← Pipeline.unscopedBufs_held d (V1 m d)]; rfl
theorem reg_post [∀ e, Nonempty (Elt F e)] (d : Dev nD) :
    (reg (Wm m)).post d = iprop((∃ W', ⌜Left (Wm m) d W'⌝ ∗ unscopedBufs d W') ∗ owesB d) := rfl

theorem hmain [∀ e, Nonempty (Elt F e)] (hn : Numbers m idsV outV) (κ : GSem nD τ sig → ℕ) (d : Dev nD) :
    iprop((K (F := F)).ctx EH (PP m idsV outV) κ ∗ (K (F := F)).tcSt EH d 0 ∗ (K (F := F)).tcRes m ρ d ∗ GG d)
      ⊢ wp frame (wpE ((K (F := F)).defs (D (F := F))) 𝒱 (T d) none) Set.univ (main d)
          fun _ => iprop((K (F := F)).tcSt EH d 1 ∗ FIN m outV d ∗ (K (F := F)).tcEnd d) := by
  unfold SparseCore.Cfg.tcRes SparseCore.Cfg.tcEnd
  rw [main_eq, launch_held]
  iintro ⟨#Hctx, Hst, ⟨Hb, Hub, Hts, -⟩, ⟨Hg, Ht⟩⟩
  iapply (StableHlo.wp_seq (defs := (K (F := F)).defs (D (F := F))) 𝒱 none Set.univ d (ucRefs τ sig) _ opsA hsA hfA (V0 m d)) $$ [Hb Hub]
  · isplitl [Hb] <;> iassumption
  iintro ⟨Hb, Hub⟩
  rw [wp_bind]
  iapply ((K (F := F)).wp_liftProg (D (F := F)) 𝒱 (T d) Set.univ none region _)
  have hwp := RDat.RegionSeg.wp (pcfgs (F := F)) adm (rdats (Wm m)) none cellOf_inj EP (defs₀ (F := F)) 𝒱₀ (K (F := F)).L (K (F := F)).lev (reg (Wm m)) d none
    (fun u hu => nomatch hu) (α := PUnit) (fun _ => Prog.ret PUnit.unit)
  iapply (hwp _)
  obtain ⟨R, hR⟩ := tcSt_split (F := F) d
  ihave Hst' := (BIBase.Entails.of_eq hR) $$ Hst
  icases Hst' with ⟨HO, Hst⟩
  isplitr [Hb Hub HO Hg Ht]
  · iintro ⟨Hb, Hpost⟩
    ihave Hpost' := (BIBase.Entails.of_eq (reg_post m d)) $$ Hpost
    icases Hpost' with ⟨⟨%W', %hL, Hub⟩, HO⟩
    rw [wp_ret]; imodintro
    ihave Hub' := (BIBase.Entails.of_eq (exit_held m d W' hL)) $$ Hub
    iapply (StableHlo.wp_seq (defs := (K (F := F)).defs (D (F := F))) 𝒱 none Set.univ d (ucRefs τ sig) _ opsB hsB hfB (V2 m d W')) $$ [Hb Hub']
    · isplitl [Hb] <;> iassumption
    iintro ⟨Hb, Hub⟩
    ihave Hub' := (BIBase.Entails.of_eq (call_held m d W')) $$ Hub
    icases Hub' with ⟨⟨Hx, Hi, Ho⟩, Hrest⟩
    rw [wp_bind]
    iapply ((K (F := F)).wp_run (D (F := F)) 𝒱 (EH := EH) (P := PP m idsV outV) κ d 0) $$ [HO Hst Hx Hi Ho Hb Hts Hrest]
    isplitr; · iexact Hctx
    isplitl [HO Hst]
    · iapply (BIBase.Entails.of_eq hR.symm)
      isplitl [HO]; · iexact HO
      iexact Hst
    isplitl [Hx Hi Ho]
    · iapply (st_intro idsV outV (fun d => m (oLoc d)) d (V3 m d W' (rf main_v8)) (hn.table d W' hL))
      rw [V3_10, hn.ids d W' hL]
      isplitl [Hx]; · iexact Hx
      isplitl [Hi]; · iexact Hi
      iexact Ho
    iintro ⟨Hst, Hdn⟩
    ihave Ho := (dn_elim idsV outV (fun d => m (oLoc d)) d) $$ Hdn
    ihave Hh := (back_held m outV d W') $$ [Ho Hrest]
    · isplitl [Ho]; · iexact Ho
      iexact Hrest
    iapply (StableHlo.wp_seq (defs := (K (F := F)).defs (D (F := F))) 𝒱 none Set.univ d (insert (rf main_v10) restSet) _ opsC hsC hfC (V4 m outV d W')) $$ [Hb Hh]
    · isplitl [Hb] <;> iassumption
    iintro ⟨Hb, Hh⟩
    rw [wp_pure]; imodintro
    isplitl [Hst]; · iexact Hst
    isplitl [Hh]; · iapply (end_held m outV d W'); iexact Hh
    isplitl [Hb]; · iexact Hb
    iexact Hts
  isplitl [Hb]; · iexact Hb
  isplitl [Hub HO]
  · rw [reg_pre]
    isplitl [Hub]; · iexact Hub
    iexact HO
  isplitr; · iapply ((K (F := F)).ctx_levAts κ); iexact Hctx
  isplitl [Hg]; · iexact Hg
  iexact Ht

/-! ## The launch -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m idsV outV).x q thr) := by
  unfold u₀
  iintro Hu
  ihave H := (ownU_pair (initOf (K (F := F)).hsCells (K (F := F)).hsToks) _) $$ Hu
  icases H with ⟨HH, HR⟩
  ihave HR' := (own_pair_emb (embR : Emb (UP × Counters) 𝕄) (initOf (Pipeline.cells (Pipeline.pin (pcfgs (F := F)) adm) cellOf_inj) (Pipeline.launchToks (Pipeline.pin (pcfgs (F := F)) adm) cellOf_inj)) (1 : Counters)) $$ HR
  icases HR' with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [show (bigSep Finset.univ fun d : Dev nD => GG (F := F) d)
        = iprop((bigSep Finset.univ fun c : Dev nD => bigSep Finset.univ fun p : Fin 1 => Pipeline.cellsGhost (Pipeline.pin (pcfgs (F := F)) adm) EP p c)
          ∗ (bigSep Finset.univ fun c : Dev nD => bigSep Finset.univ fun p : Fin 1 => (Pipeline.toksInit (Pipeline.pin (pcfgs (F := F)) adm) EP p c : sProp 𝕄))) from by
      rw [← bigSep_sep']
      exact bigSep_congr fun c _ => by
        rw [bigSep_univ_of_subsingleton (0 : Fin 1), bigSep_univ_of_subsingleton (0 : Fin 1)]]
    isplitl [Hg]; · iexact Hg
    iexact Ht
  rw [show (bigSep Finset.univ fun thr : Thread nD τ => bigSep Finset.univ fun q : Fin 1 => (PP (F := F) m idsV outV).x q thr) = bigSep Finset.univ fun _ => iprop(emp) from
    bigSep_congr fun _ _ => bigSep_univ_of_subsingleton (0 : Fin 1), bigSep_emp']
  iempintro

def fq (d : Dev nD) (s' : Phys nD τ sig (Elt F)) : Prop := ∀ b ∈ endRefs, s'.mem.mem (d, b) = VF m outV d b

/-- Buffers held at `V` beside a state: the state's memory has them at `V`. -/
theorem held_read (d : Dev nD) (V : Val' F) (s' : Phys nD τ sig (Elt F)) (R : Finset (DevRef τ sig)) :
    iprop(StableHlo.held (T d) R V ∗ SI s') ⊢ (⌜∀ b ∈ R, s'.mem.mem (d, b) = V b⌝ : sProp 𝕄) := by
  induction R using Finset.induction_on with
  | empty => iintro -; ipureintro; exact fun b hb => absurd hb (Finset.notMem_empty b)
  | insert a R ha ih =>
    unfold StableHlo.held at ih ⊢
    rw [SparseCore.bigSep_insert' ha]
    iintro ⟨⟨Ha, HR⟩, HSI⟩
    ihave H := (persistent_entails_right (SI_pointsTo_agree (st := s') (ℓ := (d, a)) (I := Finset.univ) (q := fullShare) (f := V a))) $$ [HSI Ha]
    · isplitl [HSI] <;> iassumption
    icases H with ⟨%h1, HSI, -⟩
    ihave H := ih $$ [HR HSI]
    · isplitl [HR] <;> iassumption
    icases H with %h2
    ipureintro
    intro b hb
    rcases Finset.mem_insert.mp hb with rfl | hb
    · exact funext fun i => h1 i (Finset.mem_univ i)
    · exact h2 b hb

theorem hfin (d : Dev nD) (s' : Phys nD τ sig (Elt F)) : iprop(FIN m outV d ∗ SI s') ⊢ (⌜fq m outV d s'⌝ : sProp 𝕄) :=
  held_read d (VF m outV d) s' endRefs

def QC : PUnit × MemSt nD τ sig (Elt F) → Prop := fun r => (∀ c : Dev nD, ∀ b ∈ endRefs, r.2.mem (c, b) = VF m outV c b) ∧ r.2.sem = fun _ => 0

theorem run_main [∀ e, Nonempty (Elt F e)] (hn : Numbers m idsV outV) :
    θ_run (Cert.KernelIdeal.defs (F := F)) (Cert.KernelIdeal.threads (F := F)) ⟨m, fun _ => 0, ρ⟩ (QC m outV) :=
  SparseCore.Cfg.θ_run_sc_quiescent (K := K (F := F)) (D := D (F := F)) (𝒱 := 𝒱) (EH := EH) (P := PP m idsV outV) (A := ∅) facts v₀
    (fun q hq => match q with | 0 => nomatch hq)
    (fun q _ => match q with | 0 => tileObl idsV outV (fun d => m (oLoc d)) hn.range)
    (fun q _ => match q with | 0 => SparseCore.Cfg.VecSplit.of_plain (vecSplit idsV outV fun d => m (oLoc d)))
    m ρ main (fun d => GG d) (FIN m outV) (u₀ (F := F)) (sep_elim_left.trans (hu₀ m idsV outV)) (hmain m ρ idsV outV hn) (fq m outV) (hfin m outV)
    (QC m outV) (fun _ h hz => ⟨h, hz⟩)

end Cert.Proof.Seg

end
-- ==== Proof.Ids.lean ====
/-
  The segment numbers of a sentence: what the doubling scan leaves at a position, as a natural number.
-/
module

public import proofs.«01_k».proof.Proof.FusedWp
public import Idealize.ShloMosaic.Lib.Pointwise

@[expose] public section

set_option maxRecDepth 16384

noncomputable section

namespace Cert.Proof.Seg

open Cert.KernelIdeal Cert.KernelIdeal.Gen
open Idealize.ShloMosaic

variable {F : FTy → Type} [FloatOps F]

/-! ## Windows of a sequence -/

/-- The sum of the `w` numbers ending at position `p`. -/
def winSum (a : Nat → Nat) (w p : Nat) : Nat := ∑ q ∈ Finset.range w, if q ≤ p then a (p - q) else 0

theorem winSum_one (a : Nat → Nat) (p : Nat) : winSum a 1 p = a p := by simp [winSum]

theorem winSum_double (a : Nat → Nat) (w p : Nat) : winSum a (w + w) p = winSum a w p + if p < w then 0 else winSum a w (p - w) := by
  unfold winSum
  rw [Finset.sum_range_add]
  congr 1
  split
  · rename_i h
    refine Finset.sum_eq_zero fun q _ => if_neg (by omega)
  · rename_i h
    refine Finset.sum_congr rfl fun q _ => ?_
    by_cases hq : w + q ≤ p
    · rw [if_pos hq, if_pos (by omega), Nat.sub_sub]
    · rw [if_neg hq, if_neg (by omega)]

/-- Segment number of position `p`: the changes after the first position, up to `p`. -/
def bid (a : Nat → Nat) (p : Nat) : Nat := ∑ q ∈ Finset.range p, a (q + 1)

theorem winSum_all (a : Nat → Nat) (w p : Nat) (h : p < w) : winSum a w p = bid a p + a 0 := by
  have h1 : winSum a w p = ∑ q ∈ Finset.range (p + 1), a (p - q) := by
    unfold winSum
    rw [← Finset.sum_filter]
    refine Finset.sum_congr ?_ fun _ _ => rfl
    ext q
    simp only [Finset.mem_filter, Finset.mem_range]
    omega
  rw [h1, bid, ← Finset.sum_range_succ' a p]
  exact Finset.sum_range_reflect a (p + 1)

theorem bid_succ (a : Nat → Nat) (p : Nat) : bid a (p + 1) = bid a p + a (p + 1) := Finset.sum_range_succ _ _
theorem bid_zero (a : Nat → Nat) : bid a 0 = 0 := rfl

theorem bid_mono (a : Nat → Nat) {p q : Nat} (h : p ≤ q) : bid a p ≤ bid a q :=
  Finset.sum_le_sum_of_subset (Finset.range_mono h)

theorem bid_le (a : Nat → Nat) (ha : ∀ q, a q ≤ 1) (p : Nat) : bid a p ≤ p := by
  refine le_trans (Finset.sum_le_card_nsmul _ _ 1 fun q _ => ha _) ?_
  simp

/-! ## The scan -/

abbrev col (k : Nat) : Shape := ⟨2, ![k, 1]⟩

/-- `k` zeros, then the first `n` of `v`. -/
abbrev joined (k n : Nat) (v : IVec S2048x1 32) (hs : S2048x1.Slices ![0, 0] (col n)) (hc : Shape.Concatenates [col k, col n] S2048x1 0) : IVec S2048x1 32 :=
  let z : IVec (col k) 32 := broadcast (col k) 0#32
  let r : IVec (col n) 32 := extractStridedSlice (col n) ![0, 0] v hs
  concatenate S2048x1 0 [⟨col k, z⟩, ⟨col n, r⟩] hc

theorem shift_step (a : Nat → Nat) (k n : Nat) (v : IVec S2048x1 32) (hs : S2048x1.Slices ![0, 0] (col n))
    (hc : Shape.Concatenates [col k, col n] S2048x1 0)
    (hv : ∀ p : Fin 2048, v (ix2 p 0) = BitVec.ofNat 32 (winSum a k p.val)) (p : Fin 2048) :
    addi v (joined k n v hs hc) (ix2 p 0)
      = BitVec.ofNat 32 (winSum a (k + k) p.val) := by
  rw [winSum_double]
  show v (ix2 p 0) + joined k n v hs hc (ix2 p 0) = _
  rw [hv, joined, concatenate_pair_apply, BitVec.ofNat_add]
  congr 1
  by_cases h : p.val < k
  · rw [if_pos h]; exact dif_pos h
  · rw [if_neg h]
    refine (dif_neg h).trans ?_
    have hb : p.val - k < 2048 := by omega
    rw [← hv ⟨p.val - k, hb⟩]
    show v _ = v _
    congr 1
    funext b
    refine Fin.ext ?_
    match b with
    | ⟨0, _⟩ => exact Nat.zero_add _
    | ⟨1, _⟩ => rfl

/-- A sentence's word at a position, as a number. -/
def word (x : Vec F S1x2048x1 .i32) (p : Nat) : Nat := if h : p < 2048 then (x (ix3 0 ⟨p, h⟩ 0) : BitVec 32).toNat else 0

theorem scan_512 (x : Vec F S1x2048x1 .i32) (p : Fin 2048) : k0_pay188 (F := F) x (ix2 p 0) = BitVec.ofNat 32 (winSum (word x) 1024 p.val) := by
  unfold k0_pay188
  refine shift_step (word x) 512 1536 _ _ _ (fun p => ?_) p
  refine shift_step (word x) 256 1792 _ _ _ (fun p => ?_) p
  refine shift_step (word x) 128 1920 _ _ _ (fun p => ?_) p
  refine shift_step (word x) 64 1984 _ _ _ (fun p => ?_) p
  refine shift_step (word x) 32 2016 _ _ _ (fun p => ?_) p
  refine shift_step (word x) 16 2032 _ _ _ (fun p => ?_) p
  refine shift_step (word x) 8 2040 _ _ _ (fun p => ?_) p
  refine shift_step (word x) 4 2044 _ _ _ (fun p => ?_) p
  refine shift_step (word x) 2 2046 _ _ _ (fun p => ?_) p
  refine shift_step (word x) 1 2047 _ _ _ (fun p => ?_) p
  rw [winSum_one, word, dif_pos p.isLt, BitVec.ofNat_toNat, BitVec.setWidth_eq]
  pointwise

/-- The segment numbers within the sentence. -/
abbrev loc (x : Vec F S1x2048x1 .i32) : IVec S2048x1 32 := k0_pay190 (k0_pay188 (F := F) x) (k0_pay189 (F := F) x)

theorem loc_apply (x : Vec F S1x2048x1 .i32) (p : Fin 2048) : loc x (ix2 p 0) = BitVec.ofNat 32 (bid (word x) p.val) := by
  have h : ∀ p : Fin 2048, addi (k0_pay188 (F := F) x) (k0_pay189 (F := F) x) (ix2 p 0) = BitVec.ofNat 32 (bid (word x) p.val + word x 0) := by
    intro p
    rw [← winSum_all (word x) 2048 p.val p.isLt]
    unfold k0_pay189
    exact shift_step (word x) 1024 1024 _ _ _ (scan_512 x) p
  unfold loc k0_pay190
  show addi (k0_pay188 (F := F) x) (k0_pay189 (F := F) x) (ix2 p 0)
    - broadcastTo S2048x1 (extractStridedSlice S1x1 ![0, 0] (addi (k0_pay188 (F := F) x) (k0_pay189 (F := F) x)) slices_S2048x1_o0_0_S1x1) broadcasts_S1x1_S2048x1 (ix2 p 0) = _
  rw [h p, broadcastTo_apply _ _ _ (ix2 (0 : Fin 1) (0 : Fin 1)) (fun b => by match b with | ⟨0, _⟩ => rfl | ⟨1, _⟩ => rfl),
    extractStridedSlice_apply _ _ _ _ (ix2 (0 : Fin 2048) (0 : Fin 1)) (fun b => by match b with | ⟨0, _⟩ => rfl | ⟨1, _⟩ => rfl), h 0,
    show ((0 : Fin 2048) : Nat) = 0 from rfl, bid_zero, Nat.zero_add, BitVec.ofNat_add]
  exact BitVec.add_sub_cancel _ _

theorem nSeg_eq (x : Vec F S1x2048x1 .i32) : nSeg x = BitVec.ofNat 32 (bid (word x) 2047 + 1) := by
  have h : extractAt ![0, 0] (k0_pay192 (k0_pay188 (F := F) x) (k0_pay189 (F := F) x)) inpos_S1x1_p0_0 = loc x (ix2 (2047 : Fin 2048) 0) := by
    unfold k0_pay192
    show k0_pay190 _ _ _ = _
    congr 1
    funext b; match b with | ⟨0, _⟩ => rfl | ⟨1, _⟩ => rfl
  rw [nSeg, h, loc_apply, BitVec.ofNat_add]
  rfl

theorem idsOut_apply (i : grid0.Coords) (x : Vec F S1x2048x1 .i32) (p : Fin 2048) :
    idsOut i x (ix3 0 p 0) = BitVec.ofNat 32 (bid (word x) p.val + (i 0).val * 2048) := by
  have h : idsOut i x (ix3 0 p 0) = loc x (ix2 p 0) + BitVec.ofNat 32 (i 0).val * 2048#32 := by
    unfold idsOut k0_pay191
    pointwise
    rfl
  rw [h, loc_apply, BitVec.ofNat_add, BitVec.ofNat_mul]

end Cert.Proof.Seg
-- ==== Proof.Tiles.lean ====
/-
  A row of the fused kernel's table: the tile that holds a segment's row, and what the body puts there.
-/
module

public import proofs.«01_k».proof.Proof.Ids

@[expose] public section

set_option maxRecDepth 16384

noncomputable section

namespace Cert.Proof.Seg

open Cert.KernelIdeal Cert.KernelIdeal.Gen
open Idealize.ShloMosaic

variable {F : FTy → Type} [FloatOps F]

section Rows

variable (v48 : IVec S2048x1 32) (v60 : FVec F S2048x512 .bf16) (v61 : FVec F S512x1 .bf16) (v62 : IVec S512x256 32)
variable (w1 : Vec F S512x2048 .bf16) (b1 : Vec F S1x2048 .f32) (w2 : Vec F S2048x512 .bf16) (b2 g be : Vec F S1x512 .f32)

abbrev tileRect (t : Fin 8) : Rect S1x2048x512 := Rect.unit (s := S1x2048x512) ![0, 256 * t.val, 0] S1x256x512.size (inb_tile t)

theorem tileRect_emb (t : Fin 8) (q : Fin 256) (j : Fin 512) (h : 256 * t.val + q.val < 2048) :
    (tileRect t).emb (ix3 (0 : Fin 1) q j : S1x256x512.Idx) = (ix3 (0 : Fin 1) ⟨256 * t.val + q.val, h⟩ j : S1x2048x512.Idx) := by
  funext a
  refine Fin.ext ?_
  match a with
  | ⟨0, _⟩ => rfl
  | ⟨1, _⟩ => show 256 * t.val + 1 * q.val = 256 * t.val + q.val; omega
  | ⟨2, _⟩ => show 0 + 1 * j.val = j.val; omega

theorem tileRect_row (t : Fin 8) (l : Fin 2048) (j : Fin 512) (h : (ix3 (0 : Fin 1) l j : S1x2048x512.Idx) ∈ (tileRect t).set) : l.val / 256 = t.val := by
  obtain ⟨q, hq, e⟩ := (tileRect t).mem_set.mp h 1
  have h1 : l.val = 256 * t.val + 1 * q := e
  have h2 : q < 256 := hq
  omega

theorem toInt_small (n : Nat) (h : n < 2147483648) : (BitVec.ofNat 32 n).toInt = n := by
  rw [BitVec.toInt_eq_toNat_cond, BitVec.toNat_ofNat, Nat.mod_eq_of_lt (by omega), if_pos (by omega)]

theorem sgt_tile (n : Nat) (hn : n ≤ 2048) (t : Fin 8) (h : 256 * t.val < n) :
    Scalar.cmpi .ne (Scalar.extui (Scalar.cmpi .sgt (BitVec.ofNat 32 n) (lo t)) : BitVec 32) 0#32 = 1#1 := by
  have h1 : Scalar.cmpi .sgt (BitVec.ofNat 32 n) (lo t) = 1#1 := by
    have ht := t.isLt
    show BitVec.ofBool ((lo t).slt (BitVec.ofNat 32 n)) = 1#1
    rw [BitVec.slt_eq_decide, toInt_small _ (by omega), toInt_small _ (by omega), decide_eq_true (by omega)]; rfl
  rw [h1]; decide

theorem tilePut_hit (n : Nat) (hn : n ≤ 2048) (t : Fin 8) (X : S1x2048x512.Idx → Elt F .f32) (l : Fin 2048) (j : Fin 512) (hl : l.val < n) (ht : l.val / 256 = t.val) :
    tilePut v48 v60 v61 v62 w1 b1 w2 b2 g be (BitVec.ofNat 32 n) t X (ix3 (0 : Fin 1) l j)
      = tileOut v48 v60 v61 v62 w1 b1 w2 b2 g be t (ix3 (0 : Fin 1) ⟨l.val % 256, Nat.mod_lt _ (by decide)⟩ j) := by
  unfold tilePut
  rw [if_pos (sgt_tile n hn t (by omega))]
  have e : (ix3 (0 : Fin 1) l j : S1x2048x512.Idx) = (tileRect t).emb (ix3 (0 : Fin 1) ⟨l.val % 256, Nat.mod_lt _ (by decide)⟩ j : S1x256x512.Idx) := by
    rw [tileRect_emb t _ j (by show 256 * t.val + l.val % 256 < 2048; have := l.isLt; omega)]
    congr 1
    refine Fin.ext ?_
    show l.val = 256 * t.val + l.val % 256
    omega
  rw [e]
  exact Rect.overlay_emb (tileRect t) _ _ _

theorem tilePut_miss (v57 : BitVec 32) (t : Fin 8) (X : S1x2048x512.Idx → Elt F .f32) (l : Fin 2048) (j : Fin 512) (ht : l.val / 256 ≠ t.val) :
    tilePut v48 v60 v61 v62 w1 b1 w2 b2 g be v57 t X (ix3 (0 : Fin 1) l j) = X (ix3 (0 : Fin 1) l j) := by
  unfold tilePut
  split
  · exact Rect.overlay_of_not_mem (tileRect t) _ _ fun h => ht (tileRect_row t l j h)
  · rfl

end Rows

/-- The lanes' numbers. -/
abbrev lanes : IVec S512x256 32 := iota .tc S512x256 32 [1] iota_S512x256_d1_w32

/-- Row `l` of the table of a sentence: its tile's row. -/
def rowAt (x : Vec F S1x2048x1 .i32) (y : Vec F S1x2048x512 .f32) (w1 : Vec F S512x2048 .bf16) (b1 : Vec F S1x2048 .f32) (w2 : Vec F S2048x512 .bf16)
    (b2 g be : Vec F S1x512 .f32) (l : Fin 2048) (j : Fin 512) : F .f32 :=
  tileOut (loc x) (k0_pay193 y) (k0_pay194 (F := F)) lanes w1 b1 w2 b2 g be ⟨l.val / 256, by have := l.isLt; omega⟩
    (ix3 (0 : Fin 1) ⟨l.val % 256, Nat.mod_lt _ (by decide)⟩ j)

theorem rowsAll_row (x : Vec F S1x2048x1 .i32) (y : Vec F S1x2048x512 .f32) (w1 : Vec F S512x2048 .bf16) (b1 : Vec F S1x2048 .f32) (w2 : Vec F S2048x512 .bf16)
    (b2 g be : Vec F S1x512 .f32) (X : S1x2048x512.Idx → Elt F .f32) (hx : ∀ q, word x q ≤ 1) (l : Fin 2048) (j : Fin 512) (hl : l.val ≤ bid (word x) 2047) :
    rowsAll x y w1 b1 w2 b2 g be X (ix3 (0 : Fin 1) l j) = rowAt x y w1 b1 w2 b2 g be l j := by
  have hn : bid (word x) 2047 + 1 ≤ 2048 := Nat.succ_le_succ (bid_le _ hx 2047)
  have hit := fun (t : Fin 8) X (ht : l.val / 256 = t.val) =>
    tilePut_hit (loc x) (k0_pay193 y) (k0_pay194 (F := F)) lanes w1 b1 w2 b2 g be (bid (word x) 2047 + 1) hn t X l j (by omega) ht
  have miss := fun (t : Fin 8) X (ht : l.val / 256 ≠ t.val) =>
    tilePut_miss (loc x) (k0_pay193 y) (k0_pay194 (F := F)) lanes w1 b1 w2 b2 g be (BitVec.ofNat 32 (bid (word x) 2047 + 1)) t X l j ht
  unfold rowsAll putTail putHead
  rw [nSeg_eq]
  have step : ∀ (t : Fin 8) X, (l.val / 256 ≠ t.val → X (ix3 (0 : Fin 1) l j) = rowAt x y w1 b1 w2 b2 g be l j) →
      tilePut (loc x) (k0_pay193 y) (k0_pay194 (F := F)) lanes w1 b1 w2 b2 g be (BitVec.ofNat 32 (bid (word x) 2047 + 1)) t X (ix3 (0 : Fin 1) l j)
        = rowAt x y w1 b1 w2 b2 g be l j := by
    intro t X h
    by_cases ht : l.val / 256 = t.val
    · rw [hit t X ht, rowAt]
      congr 1
      exact Fin.ext ht.symm
    · rw [miss t X ht, h ht]
  have hlt := l.isLt
  refine step 7 _ fun h7 => step 6 _ fun h6 => step 5 _ fun h5 => step 4 _ fun h4 => step 3 _ fun h3 => step 2 _ fun h2 => step 1 _ fun h1 => step 0 _ fun h0 => ?_
  exfalso
  simp only [show ((7 : Fin 8) : Nat) = 7 from rfl, show ((6 : Fin 8) : Nat) = 6 from rfl, show ((5 : Fin 8) : Nat) = 5 from rfl, show ((4 : Fin 8) : Nat) = 4 from rfl,
    show ((3 : Fin 8) : Nat) = 3 from rfl, show ((2 : Fin 8) : Nat) = 2 from rfl, show ((1 : Fin 8) : Nat) = 1 from rfl, show ((0 : Fin 8) : Nat) = 0 from rfl] at *
  omega

end Cert.Proof.Seg
-- ==== Proof.Blk.lean ====
/-
  The fused kernel's blocks at an index: sentence `t`'s rows of an array of sentences.
-/
module

public import proofs.«01_k».proof.Proof.RunMain
public import proofs.«01_k».proof.Proof.Tiles

@[expose] public section

set_option maxRecDepth 16384

noncomputable section

namespace Cert.Proof.Seg

open Cert.KernelIdeal Cert.KernelIdeal.Gen
open Idealize.ShloMosaic
open Idealize.ShloMosaic.TcCoe

variable {F : FTy → Type} [FloatOps F]

/-- The grid's point of a sentence. -/
abbrev point (s : Fin 8) : Fin cfg0.N := s.cast N_0.symm

theorem coords_point (s : Fin 8) : (grid0.coords (point s) 0).val = s.val := by revert s; decide +kernel

/-! ## The blocks over the sentences -/

theorem index0 (s : Fin 8) : (cfg0.win 0).index (point s) 0 = s.val := by revert s; decide +kernel

theorem read0 (s : Fin 8) (f : S8x2048x1.Idx → Elt F .i32) (p : Fin 2048) (c : Fin 1) :
    ((cfg0.win 0).blk (point s)).view.read (Elt F) f (ix3 (0 : Fin 1) p c : S1x2048x1.Idx) = f (ix3 s p c) := by
  show f _ = f _
  congr 1
  funext a
  refine Fin.ext ?_
  match a with
  | ⟨0, _⟩ => show (cfg0.win 0).index (point s) 0 * 1 + 1 * 0 = s.val; rw [index0]; omega
  | ⟨1, _⟩ => show 0 * 2048 + 1 * p.val = p.val; omega
  | ⟨2, _⟩ => show 0 * 1 + 1 * c.val = c.val; omega

theorem index1 (s : Fin 8) : (cfg0.win 1).index (point s) 0 = s.val := by revert s; decide +kernel

theorem read1 (s : Fin 8) (f : S8x2048x512.Idx → Elt F .f32) (p : Fin 2048) (c : Fin 512) :
    ((cfg0.win 1).blk (point s)).view.read (Elt F) f (ix3 (0 : Fin 1) p c : S1x2048x512.Idx) = f (ix3 s p c) := by
  show f _ = f _
  congr 1
  funext a
  refine Fin.ext ?_
  match a with
  | ⟨0, _⟩ => show (cfg0.win 1).index (point s) 0 * 1 + 1 * 0 = s.val; rw [index1]; omega
  | ⟨1, _⟩ => show 0 * 2048 + 1 * p.val = p.val; omega
  | ⟨2, _⟩ => show 0 * 512 + 1 * c.val = c.val; omega

theorem index8 (s : Fin 8) : (cfg0.win 8).index (point s) 0 = s.val := by revert s; decide +kernel

theorem read8 (s : Fin 8) (f : S8x2048x512.Idx → Elt F .f32) (p : Fin 2048) (c : Fin 512) :
    ((cfg0.win 8).blk (point s)).view.read (Elt F) f (ix3 (0 : Fin 1) p c : S1x2048x512.Idx) = f (ix3 s p c) := by
  show f _ = f _
  congr 1
  funext a
  refine Fin.ext ?_
  match a with
  | ⟨0, _⟩ => show (cfg0.win 8).index (point s) 0 * 1 + 1 * 0 = s.val; rw [index8]; omega
  | ⟨1, _⟩ => show 0 * 2048 + 1 * p.val = p.val; omega
  | ⟨2, _⟩ => show 0 * 512 + 1 * c.val = c.val; omega

theorem index9 (s : Fin 8) : (cfg0.win 9).index (point s) 0 = s.val := by revert s; decide +kernel

theorem read9 (s : Fin 8) (f : S8x2048x1.Idx → Elt F .i32) (p : Fin 2048) (c : Fin 1) :
    ((cfg0.win 9).blk (point s)).view.read (Elt F) f (ix3 (0 : Fin 1) p c : S1x2048x1.Idx) = f (ix3 s p c) := by
  show f _ = f _
  congr 1
  funext a
  refine Fin.ext ?_
  match a with
  | ⟨0, _⟩ => show (cfg0.win 9).index (point s) 0 * 1 + 1 * 0 = s.val; rw [index9]; omega
  | ⟨1, _⟩ => show 0 * 2048 + 1 * p.val = p.val; omega
  | ⟨2, _⟩ => show 0 * 1 + 1 * c.val = c.val; omega

/-! ## The blocks that are whole arrays -/

theorem read2 (s : Fin 8) (f : S512x2048.Idx → Elt F .bf16) : ((cfg0.win 2).blk (point s)).view.read (Elt F) f = f := by
  funext y
  show f _ = f _
  congr 1
  funext a
  refine Fin.ext ?_
  match a with
  | ⟨0, _⟩ => show 0 * _ + 1 * (y 0).val = (y 0).val; omega
  | ⟨1, _⟩ => show 0 * _ + 1 * (y 1).val = (y 1).val; omega

theorem read3 (s : Fin 8) (f : S1x2048.Idx → Elt F .f32) : ((cfg0.win 3).blk (point s)).view.read (Elt F) f = f := by
  funext y
  show f _ = f _
  congr 1
  funext a
  refine Fin.ext ?_
  match a with
  | ⟨0, _⟩ => show 0 * _ + 1 * (y 0).val = (y 0).val; omega
  | ⟨1, _⟩ => show 0 * _ + 1 * (y 1).val = (y 1).val; omega

theorem read4 (s : Fin 8) (f : S2048x512.Idx → Elt F .bf16) : ((cfg0.win 4).blk (point s)).view.read (Elt F) f = f := by
  funext y
  show f _ = f _
  congr 1
  funext a
  refine Fin.ext ?_
  match a with
  | ⟨0, _⟩ => show 0 * _ + 1 * (y 0).val = (y 0).val; omega
  | ⟨1, _⟩ => show 0 * _ + 1 * (y 1).val = (y 1).val; omega

theorem read5 (s : Fin 8) (f : S1x512.Idx → Elt F .f32) : ((cfg0.win 5).blk (point s)).view.read (Elt F) f = f := by
  funext y
  show f _ = f _
  congr 1
  funext a
  refine Fin.ext ?_
  match a with
  | ⟨0, _⟩ => show 0 * _ + 1 * (y 0).val = (y 0).val; omega
  | ⟨1, _⟩ => show 0 * _ + 1 * (y 1).val = (y 1).val; omega

theorem read6 (s : Fin 8) (f : S1x512.Idx → Elt F .f32) : ((cfg0.win 6).blk (point s)).view.read (Elt F) f = f := by
  funext y
  show f _ = f _
  congr 1
  funext a
  refine Fin.ext ?_
  match a with
  | ⟨0, _⟩ => show 0 * _ + 1 * (y 0).val = (y 0).val; omega
  | ⟨1, _⟩ => show 0 * _ + 1 * (y 1).val = (y 1).val; omega

theorem read7 (s : Fin 8) (f : S1x512.Idx → Elt F .f32) : ((cfg0.win 7).blk (point s)).view.read (Elt F) f = f := by
  funext y
  show f _ = f _
  congr 1
  funext a
  refine Fin.ext ?_
  match a with
  | ⟨0, _⟩ => show 0 * _ + 1 * (y 0).val = (y 0).val; omega
  | ⟨1, _⟩ => show 0 * _ + 1 * (y 1).val = (y 1).val; omega

end Cert.Proof.Seg
-- ==== Proof.Numbers.lean ====
/-
  The launch memory's numbers and rows: with every change 0 or 1 the region's numbers are in range, and at them every
  table the region may leave holds the same rows.
-/
module

public import proofs.«01_k».proof.Proof.Blk

@[expose] public section

set_option maxRecDepth 16384

noncomputable section

namespace Cert.Proof.Seg

open Cert.KernelIdeal Cert.KernelIdeal.Gen
open Idealize.ShloMosaic
open Idealize.ShloMosaic.TcCoe

variable {F : FTy → Type} [FloatOps F]

variable (m : (ℓ : Loc nD τ sig) → Buf (Elt F) ℓ)

/-! ## What the host lines hand the region -/

theorem Wm_v0 (d : Dev nD) : Wm m d main_v0 = shapeCast S8x2048x1 (m (d, rf main_arg1) : S8x2048.Idx → Elt F .i32) shapeCasts_S8x2048_S8x2048x1 := by
  rw [Wm, V1, opsA]; after_results; rfl
theorem Wm_v1 (d : Dev nD) : Wm m d main_v1 = truncf .bf16 (m (d, rf main_arg2) : FVec F S512x2048 .f32) bitsLt_bf16_f32 := by
  rw [Wm, V1, opsA]; after_results
theorem Wm_v2 (d : Dev nD) : Wm m d main_v2 = truncf .bf16 (m (d, rf main_arg4) : FVec F S2048x512 .f32) bitsLt_bf16_f32 := by
  rw [Wm, V1, opsA]; after_results
theorem Wm_v3 (d : Dev nD) : Wm m d main_v3 = shapeCast S1x2048 (m (d, rf main_arg3) : FVec F S2048 .f32) shapeCasts_S2048_S1x2048 := by
  rw [Wm, V1, opsA]; after_results; rfl
theorem Wm_v4 (d : Dev nD) : Wm m d main_v4 = shapeCast S1x512 (m (d, rf main_arg5) : FVec F S512 .f32) shapeCasts_S512_S1x512 := by
  rw [Wm, V1, opsA]; after_results; rfl
theorem Wm_v5 (d : Dev nD) : Wm m d main_v5 = shapeCast S1x512 (m (d, rf main_arg6) : FVec F S512 .f32) shapeCasts_S512_S1x512 := by
  rw [Wm, V1, opsA]; after_results; rfl
theorem Wm_v6 (d : Dev nD) : Wm m d main_v6 = shapeCast S1x512 (m (d, rf main_arg7) : FVec F S512 .f32) shapeCasts_S512_S1x512 := by
  rw [Wm, V1, opsA]; after_results; rfl
theorem Wm_arg0 (d : Dev nD) : Wm m d main_arg0 = m (d, rf main_arg0) := V1_of_ne m d _ (by decide)

/-! ## A sentence's numbers -/

/-- The words of sentence `s`, and its rows. -/
abbrev xs (d : Dev nD) (s : Fin 8) : Vec F S1x2048x1 .i32 := idsBlk (Wm m) d (point s)
abbrev ys (d : Dev nD) (s : Fin 8) : Vec F S1x2048x512 .f32 := rowsBlk (Wm m) d (point s)

theorem xs_apply (d : Dev nD) (s : Fin 8) (p : Fin 2048) : xs m d s (ix3 (0 : Fin 1) p (0 : Fin 1)) = (m (d, rf main_arg1) : S8x2048.Idx → Elt F .i32) (ix2 s p) := by
  rw [xs, idsBlk, read0 s _ p 0, Wm_v0]
  pointwise

theorem ys_apply (d : Dev nD) (s : Fin 8) (p : Fin 2048) (j : Fin 512) :
    ys m d s (ix3 (0 : Fin 1) p j) = (m (d, rf main_arg0) : S8x2048x512.Idx → Elt F .f32) (ix3 s p j) := by
  rw [ys, rowsBlk, read1 s _ p j, Wm_arg0]

/-- Every change is 0 or 1. -/
def Binary : Prop := ∀ (d : Dev nD) (s : Fin 8) (p : Fin 2048), ((m (d, rf main_arg1) : S8x2048.Idx → Elt F .i32) (ix2 s p) : BitVec 32).toNat ≤ 1

variable {m} in
theorem word_le (hb : Binary m) (d : Dev nD) (s : Fin 8) (q : Nat) : word (xs m d s) q ≤ 1 := by
  unfold word
  split
  · rw [xs_apply]; exact hb d s _
  · exact Nat.zero_le 1

/-- The segment number, within the sentence, of position `p` of sentence `s`. -/
abbrev seg (d : Dev nD) (s : Fin 8) (p : Nat) : Nat := bid (word (xs m d s)) p

variable {m} in
theorem seg_lt (hb : Binary m) (d : Dev nD) (s : Fin 8) (p : Fin 2048) : seg m d s p.val < 2048 :=
  lt_of_le_of_lt (bid_le _ (word_le hb d s) p.val) p.isLt

abbrev sent (x : Fin 16384) : Fin 8 := ⟨x.val / 2048, by have := x.isLt; omega⟩
abbrev posn (x : Fin 16384) : Fin 2048 := ⟨x.val % 2048, Nat.mod_lt _ (by decide)⟩

/-- The numbers the gather reads, and the rows it writes. -/
def idsV (d : Dev nD) : S16384.Idx → Elt F .i32 := fun x => BitVec.ofNat 32 (seg m d (sent (x 0)) (posn (x 0)).val + (sent (x 0)).val * 2048)

def outV (d : Dev nD) : S16384x512.Idx → Elt F .f32 := fun x =>
  rowAt (xs m d (sent (x 0))) (ys m d (sent (x 0))) (w1Blk (Wm m) d (point (sent (x 0)))) (b1Blk (Wm m) d (point (sent (x 0)))) (w2Blk (Wm m) d (point (sent (x 0))))
    (b2Blk (Wm m) d (point (sent (x 0)))) (gBlk (Wm m) d (point (sent (x 0)))) (beBlk (Wm m) d (point (sent (x 0))))
    ⟨seg m d (sent (x 0)) (posn (x 0)).val % 2048, Nat.mod_lt _ (by decide)⟩ (x 1)

theorem flat_row {α : Type} (f : S8x2048x512.Idx → α) (r : Fin 16384) (j : Fin 512) :
    shapeCast S16384x512 f shapeCasts_S8x2048x512_S16384x512 (ix2 r j) = f (ix3 (sent r) (posn r) j) := by
  refine shapeCast_apply f _ _ _ ?_
  rw [Shape.rowMajor_val_two, Shape.rowMajor_val_three]
  show (r.val / 2048 * 2048 + r.val % 2048) * 512 + j.val = r.val * 512 + j.val
  omega

variable {m}

theorem idsV_toNat (hb : Binary m) (d : Dev nD) (x : S16384.Idx) : (idsV m d x : BitVec 32).toNat = seg m d (sent (x 0)) (posn (x 0)).val + (sent (x 0)).val * 2048 := by
  have h1 := seg_lt hb d (sent (x 0)) (posn (x 0))
  have h2 := (sent (x 0)).isLt
  show (BitVec.ofNat 32 _).toNat = _
  rw [BitVec.toNat_ofNat, Nat.mod_eq_of_lt (by omega)]

theorem numbers (hb : Binary m) : Numbers m (idsV m) (outV m) where
  range d x := by
    have h1 := seg_lt hb d (sent (x 0)) (posn (x 0))
    have h2 := (sent (x 0)).isLt
    rw [idsV_toNat hb d x]
    omega
  ids d W' h := by
    rw [V3_9]
    funext x
    obtain ⟨x0, rfl⟩ : ∃ x0 : Fin 16384, x = ix1 x0 := ⟨x 0, eq_ix1 x⟩
    have e : shapeCast S16384 (W' main_v7_1 : S8x2048x1.Idx → Elt F .i32) shapeCasts_S8x2048x1_S16384 (ix1 x0)
        = (W' main_v7_1 : S8x2048x1.Idx → Elt F .i32) (ix3 (sent x0) (posn x0) (0 : Fin 1)) := by pointwise
    rw [e, ← read9 (sent x0) (W' main_v7_1 : S8x2048x1.Idx → Elt F .i32) (posn x0) 0, h.nums (point (sent x0)), idsOut_apply, coords_point]
    rfl
  table d W' h := by
    intro x y z hz hy hj
    rw [idsV_toNat hb d z] at hy
    replace hy : (y 0).val = seg m d (sent (x 0)) (posn (x 0)).val + (sent (x 0)).val * 2048 :=
      hy.trans (congrArg (fun k : Fin 16384 => seg m d (sent k) (posn k).val + (sent k).val * 2048) (Fin.ext hz))
    have h1 := seg_lt hb d (sent (x 0)) (posn (x 0))
    have h2 := (sent (x 0)).isLt
    have hs : sent (y 0) = sent (x 0) := Fin.ext (by show (y 0).val / 2048 = (sent (x 0)).val; omega)
    have hp : (posn (y 0)).val = seg m d (sent (x 0)) (posn (x 0)).val := by show (y 0).val % 2048 = _; omega
    have hle : seg m d (sent (x 0)) (posn (x 0)).val ≤ bid (word (xs m d (sent (x 0)))) 2047 := bid_mono _ (by have := (posn (x 0)).isLt; omega)
    have e : V3 m d W' (rf main_v8) y = (W' main_v7_0 : S8x2048x512.Idx → Elt F .f32) (ix3 (sent (y 0)) (posn (y 0)) (y 1)) := by
      rw [V3_8, ← flat_row (W' main_v7_0 : S8x2048x512.Idx → Elt F .f32) (y 0) (y 1)]
      exact congrArg _ (eq_ix2 y)
    obtain ⟨X0, hX⟩ := h.table (point (sent (x 0)))
    rw [e, hs, ← read8 (sent (x 0)) (W' main_v7_0 : S8x2048x512.Idx → Elt F .f32) (posn (y 0)) (y 1), hX, tblBlk,
      rowsAll_row _ _ _ _ _ _ _ _ _ (word_le hb d (sent (x 0))) (posn (y 0)) (y 1) (hp ▸ hle)]
    unfold outV
    congr 1
    · exact Fin.ext (by show _ % 2048 = _; rw [hp, Nat.mod_eq_of_lt h1])
    · exact Fin.ext hj.symm

end Cert.Proof.Seg
-- ==== Proof.Frames.lean ====
/-
  The kernel's claims that need nothing of its result: both programs leave their arguments as they were.
-/
module

public import proofs.«01_k».proof.Defs
public import proofs.«01_k».proof.Proof.Numbers
public import proofs.«01_k».proof.Proof.Gen.Kernel
public import Idealize.ShloMosaic.Lib.ReduceAll

@[expose] public section

set_option maxRecDepth 16384

noncomputable section

namespace Cert.Proof.Seg

open Cert.KernelIdeal Cert.KernelIdeal.Gen
open Idealize.ShloMosaic
open Idealize.ShloMosaic.TcCoe
open Idealize.SL.Sem

theorem pre_facts : Cert.Pre_chords_binary.Facts where
  bcast_S_S8x2048 := by decide
  reducesTo_S8x2048_S_d0_1 := by decide
  h_S_ := by decide

attribute [local instance] pre_facts

/-- The precondition at a word. -/
theorem word_binary (v : BitVec 32) (e : IntOp.andi (IntOp.cmpi .sge v 0#32) (IntOp.cmpi .sle v 1#32) = 1#1) : v.toNat ≤ 1 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

theorem binary_of_fn {F : FTy → Type} [FloatOps F] (a0 : FVec F S8x2048x512 .f32) (a1 : IVec S8x2048 32) (a2 : FVec F S512x2048 .f32) (a3 : FVec F S2048 .f32)
    (a4 : FVec F S2048x512 .f32) (a5 a6 a7 : FVec F S512 .f32) (h : Cert.Pre_chords_binary.fn a0 a1 a2 a3 a4 a5 a6 a7 = fun _ => 1#1) (i : S8x2048.Idx) :
    (a1 i).toNat ≤ 1 := by
  have h0 := congrFun h (fun a => a.elim0)
  dsimp only [Cert.Pre_chords_binary.fn] at h0
  have : Subsingleton (Cert.Pre_chords_binary.S_.Idx) := ⟨fun a b => funext fun x => x.elim0⟩
  exact word_binary _ (Host.reduce_andi_all _ _ _ _ _ h0 i)

theorem arg_mem {b : Ref sig .tc} (h : b ∈ args) : rf b ∈ endRefs :=
  Finset.mem_image_of_mem _ (Finset.mem_insert_of_mem (List.mem_toFinset.mpr h))

theorem VF_arg {F : FTy → Type} [FloatOps F] (m : (ℓ : Loc nD τ sig) → Buf (Elt F) ℓ) (outV) (d : Dev nD) {b : Ref sig .tc} (h : b ∈ args) :
    VF m outV d (rf b) = m (d, rf b) := by
  unfold VF
  rw [Function.update_of_ne (StableHlo.devRef_ne_of_ne ((by decide : ∀ b ∈ args, b ≠ main_v11) b h))]

theorem QC_arg {F : FTy → Type} [FloatOps F] {m : (ℓ : Loc nD τ sig) → Buf (Elt F) ℓ} {outV} {r : PUnit × MemSt nD τ sig (Elt F)} (h : QC m outV r) (d : Dev nD)
    {b : Ref sig .tc} (hb : b ∈ args) : r.2.mem (d, rf b) = m (d, rf b) :=
  (h.1 d _ (arg_mem hb)).trans (VF_arg m outV d hb)

theorem frame_ideal : Cert.quiescent_KernelIdeal := fun m ρ hpre =>
  (θ_run Cert.KernelIdeal.defs _ _).mono
    (fun _ h => ⟨fun c => ⟨QC_arg h c (by decide), QC_arg h c (by decide), QC_arg h c (by decide), QC_arg h c (by decide), QC_arg h c (by decide),
      QC_arg h c (by decide), QC_arg h c (by decide), QC_arg h c (by decide)⟩, h.2⟩)
    (run_main (F := Ideal) m ρ (idsV m) (outV m) (numbers fun d s p => binary_of_fn _ _ _ _ _ _ _ _ (hpre d) (ix2 s p)))

section Printed

variable {F : FTy → Type} [FloatOps F]

/-! The printed kernel and the idealized one are the same text: their body tables and their mains agree. -/

theorem bodies_eq : Cert.Kernel.defs₀ (F := F) = Cert.KernelIdeal.defs₀ := by
  funext p l a
  cases p with
  | tc =>
    match l, a with
    | 0, (t, s) => exact congrFun (congrFun rfl _) _
    | 1, _ => rfl
  | scScalar _ => rfl
  | scVector c s =>
    match l, a with
    | 0, _ => rfl
    | 1, _ => rfl

theorem defs_eq : Cert.Kernel.defs (F := F) = Cert.KernelIdeal.defs :=
  (congrArg (fun D => (Cert.Kernel.sc (F := F)).defs (Pipeline.defs Cert.Kernel.pcfgs D)) bodies_eq).trans rfl

theorem threads_eq : Cert.Kernel.threads (F := F) = Cert.KernelIdeal.threads := rfl

end Printed

/-- The printed kernel is the idealized one's text, so its run at any floats is the same. -/
theorem run_printed [∀ e, Nonempty (Elt Bits e)] (m : (ℓ : Loc Cert.Kernel.nD Cert.Kernel.τ Cert.Kernel.sig) → Buf (Elt Bits) ℓ) (ρ : Dev nD → PrngReg) (hb : Binary (F := Bits) m) :
    θ_run (Cert.Kernel.defs (F := Bits)) (Cert.Kernel.threads (F := Bits)) ⟨m, fun _ => 0, ρ⟩ (QC (F := Bits) m (outV m)) :=
  (congrArg (fun D => θ_run D (Cert.Kernel.threads (F := Bits)) ⟨m, fun _ => 0, ρ⟩ (QC (F := Bits) m (outV m))) defs_eq).mpr
    (run_main (F := Bits) m ρ (idsV m) (outV m) (numbers hb))

theorem frame_bits : Cert.quiescent_Kernel := fun m ρ hpre =>
  (θ_run Cert.Kernel.defs _ _).mono
    (fun _ h => ⟨fun c => ⟨QC_arg (outV := outV (F := Bits) m) h c (by decide), QC_arg (outV := outV (F := Bits) m) h c (by decide), QC_arg (outV := outV (F := Bits) m) h c (by decide),
      QC_arg (outV := outV (F := Bits) m) h c (by decide), QC_arg (outV := outV (F := Bits) m) h c (by decide),
      QC_arg (outV := outV (F := Bits) m) h c (by decide), QC_arg (outV := outV (F := Bits) m) h c (by decide), QC_arg (outV := outV (F := Bits) m) h c (by decide)⟩, h.2⟩)
    (run_printed m ρ (fun d s p => binary_of_fn _ _ _ _ _ _ _ _ (hpre d) (ix2 s p)))

end Cert.Proof.Seg
-- ==== Proof.RefOps.lean ====
/-
  Three of the reference's host operations read at an index: the running sum along a row, the two accumulating
  scatters.
-/
module

public import proofs.«01_k».proof.Proof.Gen.ReferenceIdeal
public import Idealize.ShloMosaic.Lib.Routing.Ops
public import Idealize.ShloMosaic.Lib.Routing.OpsPair
public import Idealize.ShloMosaic.PureOps.Ideal

@[expose] public section

set_option maxRecDepth 65536

noncomputable section

namespace Cert.Proof.Seg.Ref

open Cert.ReferenceIdeal Cert.ReferenceIdeal.Gen
open Idealize.ShloMosaic Idealize.ShloMosaic.ValueIdx Idealize.ShloMosaic.Routing

/-- Row `s` of the words. -/
abbrev rowOf (x : IVec S8x2048 32) (s : Fin 8) : IVec (shape2 1 2048) 32 := fun k => x (ix2 s (k 1))

theorem window_row (x : IVec S8x2048 32) (init : IVec S_ 32) (h : S8x2048.ReduceWindows (![1, 2048] : Fin 2 → Nat) ![1, 1] ![0, 2047] ![0, 0] S8x2048)
    (h1 : (shape2 1 2048).ReduceWindows (![1, 2048] : Fin 2 → Nat) ![1, 1] ![0, 2047] ![0, 0] (shape2 1 2048)) (hu : 0 < S_.numel) (s : Fin 8) (p : Fin 2048) :
    Host.reduceWindow IntOp.addi ![1, 2048] ![1, 1] ![0, 2047] ![0, 0] x init h hu (ix2 s p)
      = Host.reduceWindow IntOp.addi ![1, 2048] ![1, 1] ![0, 2047] ![0, 0] (rowOf x s) init h1 hu (ix2 (0 : Fin 1) p) := by
  unfold Host.reduceWindow
  dsimp only
  refine congrArg (fun f => List.foldl f (init (Shape.Idx.first hu)) (List.finRange (shape2 1 2048).numel)) (funext fun r => funext fun n => congrArg (IntOp.addi r) ?_)
  have hw : ((shape2 1 2048).rowMajor.symm n 0).val < 1 := ((shape2 1 2048).rowMajor.symm n 0).isLt
  have hs := s.isLt
  by_cases hp : 2047 ≤ p.val * 1 + ((shape2 1 2048).rowMajor.symm n 1).val ∧ p.val * 1 + ((shape2 1 2048).rowMajor.symm n 1).val - 2047 < 2048
  · rw [dif_pos (fun a => by
      match a with
      | ⟨0, _⟩ => show 0 ≤ s.val * 1 + ((shape2 1 2048).rowMajor.symm n 0).val ∧ s.val * 1 + ((shape2 1 2048).rowMajor.symm n 0).val - 0 < 8; omega
      | ⟨1, _⟩ => exact hp), dif_pos (fun a => by
      match a with
      | ⟨0, _⟩ => show 0 ≤ 0 * 1 + ((shape2 1 2048).rowMajor.symm n 0).val ∧ 0 * 1 + ((shape2 1 2048).rowMajor.symm n 0).val - 0 < 1; omega
      | ⟨1, _⟩ => exact hp)]
    refine congrArg x (funext fun a => Fin.ext ?_)
    match a with
    | ⟨0, _⟩ => show s.val * 1 + ((shape2 1 2048).rowMajor.symm n 0).val - 0 = s.val; omega
    | ⟨1, _⟩ => rfl
  · rw [dif_neg (fun hin => hp (hin 1)), dif_neg (fun hin => hp (hin 1))]

/-- The running sum of a row's words. -/
theorem cumsum_row (x : IVec S8x2048 32) (f : Nat → Nat) (s : Fin 8) (hx : ∀ p : Fin 2048, x (ix2 s p) = BitVec.ofNat 32 (f p.val)) (init : IVec S_ 32) (hinit : init ix0 = 0#32)
    (h : S8x2048.ReduceWindows (![1, 2048] : Fin 2 → Nat) ![1, 1] ![0, 2047] ![0, 0] S8x2048) (hu : 0 < S_.numel) (p : Fin 2048) :
    Host.reduceWindow IntOp.addi ![1, 2048] ![1, 1] ![0, 2047] ![0, 0] x init h hu (ix2 s p) = BitVec.ofNat 32 (∑ q ∈ Finset.range (p.val + 1), f q) := by
  rw [window_row x init h (by decide) hu s p, cumsum2 (Nm1 := 2047) rfl (rowOf x s) f (fun i => hx i) init hinit _ hu p]
  refine congrArg (BitVec.ofNat 32) ?_
  induction p.val + 1 with
  | zero => rfl
  | succ n ih => rw [List.range_succ, List.map_append, List.sum_append, ih, Finset.sum_range_succ, List.map_singleton, List.sum_singleton]

/-! ## The accumulating scatters -/

theorem lands_row (idx : IVec S16384x1 32) (k : S16384x512.Idx) (r : Fin 16384) (j : Fin 512) :
    scatter_S16384x512_S16384x1_S16384x512_1_0_0_1.resultIdx? k idx = some (ix2 r j) ↔ (idx (ix2 (k 0) (0 : Fin 1))).toInt = (r.val : Int) ∧ k 1 = j := by
  have s0 : scatter_S16384x512_S16384x1_S16384x512_1_0_0_1.start k idx 0 = (idx (ix2 (k 0) (0 : Fin 1))).toInt := by
    unfold ScatterDims.start
    rw [dif_pos (by decide)]
    refine congrArg (fun t => (idx t).toInt) (funext fun a => Fin.ext ?_)
    match a with
    | ⟨0, _⟩ => rfl
    | ⟨1, _⟩ => rfl
  have s1 : scatter_S16384x512_S16384x1_S16384x512_1_0_0_1.start k idx 1 = 0 := by
    unfold ScatterDims.start
    rw [dif_neg (by decide)]
  have w0 : scatter_S16384x512_S16384x1_S16384x512_1_0_0_1.window k 0 = 0 := by
    unfold ScatterDims.window
    rw [dif_neg (by decide)]
  have w1 : scatter_S16384x512_S16384x1_S16384x512_1_0_0_1.window k 1 = (k 1).val := by
    unfold ScatterDims.window
    rw [dif_pos (by decide)]
    rfl
  rw [resultIdx?_ix2, s0, s1, w0, w1]
  exact ⟨fun h => ⟨by omega, Fin.ext (by omega)⟩, fun h => ⟨by omega, by have := congrArg Fin.val h.2; omega⟩⟩

theorem scatter_rows (x : FVec Ideal S16384x512 .f32) (idx : IVec S16384x1 32) (upd : FVec Ideal S16384x512 .f32) (r : Fin 16384) (j : Fin 512) :
    Host.scatterAdd scatter_S16384x512_S16384x1_S16384x512_1_0_0_1 x idx upd (ix2 r j)
      = (x (ix2 r j) + ∑ i : Fin 16384, if (idx (ix2 i (0 : Fin 1))).toInt = (r.val : Int) then upd (ix2 i j) else 0 : EReal) := by
  show (x (ix2 r j) + ∑ k ∈ Finset.univ.filter (fun k => scatter_S16384x512_S16384x1_S16384x512_1_0_0_1.resultIdx? k idx = some (ix2 r j)), upd k : EReal) = _
  rw [← Finset.sum_filter]
  refine congrArg (x (ix2 r j) + ·) (Finset.sum_bij' (fun k _ => k 0) (fun i _ => ix2 i j) ?_ ?_ ?_ ?_ ?_)
  · intro k hk
    exact Finset.mem_filter.mpr ⟨Finset.mem_univ _, ((lands_row idx k r j).mp (Finset.mem_filter.mp hk).2).1⟩
  · intro i hi
    exact Finset.mem_filter.mpr ⟨Finset.mem_univ _, (lands_row idx (ix2 i j) r j).mpr ⟨(Finset.mem_filter.mp hi).2, rfl⟩⟩
  · intro k hk
    have e := ((lands_row idx k r j).mp (Finset.mem_filter.mp hk).2).2
    rw [← e]; exact (eq_ix2 k).symm
  · intro i _; rfl
  · intro k hk
    have e := ((lands_row idx k r j).mp (Finset.mem_filter.mp hk).2).2
    rw [← e]; exact congrArg upd (eq_ix2 k)

theorem scatter_ones (x : FVec Ideal S16384 .f32) (idx : IVec S16384x1 32) (upd : FVec Ideal S16384 .f32) (r : Fin 16384) :
    Host.scatterAdd scatter_S16384_S16384x1_S16384_n_0_0_1 x idx upd (ix1 r)
      = (x (ix1 r) + ∑ i : Fin 16384, if (idx (ix2 i (0 : Fin 1))).toInt = (r.val : Int) then upd (ix1 i) else 0 : EReal) := by
  have lands := scatter_lands_signed scatter_S16384_S16384x1_S16384_n_0_0_1 rfl rfl rfl idx
  show (x (ix1 r) + ∑ k ∈ Finset.univ.filter (fun k => scatter_S16384_S16384x1_S16384_n_0_0_1.resultIdx? k idx = some (ix1 r)), upd k : EReal) = _
  rw [← Finset.sum_filter]
  refine congrArg (x (ix1 r) + ·) (Finset.sum_bij' (fun k _ => k 0) (fun i _ => ix1 i) ?_ ?_ ?_ ?_ ?_)
  · intro k hk
    exact Finset.mem_filter.mpr ⟨Finset.mem_univ _, (lands (k 0) r).mp ((eq_ix1 k) ▸ (Finset.mem_filter.mp hk).2)⟩
  · intro i hi
    exact Finset.mem_filter.mpr ⟨Finset.mem_univ _, (lands i r).mpr (Finset.mem_filter.mp hi).2⟩
  · intro k _; exact (eq_ix1 k).symm
  · intro i _; rfl
  · intro k _; exact congrArg upd (eq_ix1 k)

end Cert.Proof.Seg.Ref
-- ==== Proof.Sums.lean ====
/-
  A tile's sums and counts over the extended reals: the one-hot products summed over the four chunks are the sums
  over the positions of a segment.
-/
module

public import proofs.«01_k».proof.Proof.Tiles

@[expose] public section

set_option maxRecDepth 16384

noncomputable section

namespace Cert.Proof.Seg

open Cert.KernelIdeal Cert.KernelIdeal.Gen
open Idealize.ShloMosaic

/-- One or zero. -/
theorem bit_float (a b : BitVec 32) :
    (FloatOps.truncf .bf16 bitsLt_bf16_f32 (FloatOps.sitofp .f32 ((IntOp.cmpi .eq a b).setWidth 32)) : Ideal .bf16) = if a = b then (1 : EReal) else 0 := by
  show (((BitVec.setWidth 32 (BitVec.ofBool (a == b))).toInt : ℝ) : EReal) = _
  by_cases h : a = b
  · rw [if_pos h, beq_iff_eq.mpr h]
    have e : (BitVec.setWidth 32 (BitVec.ofBool true)).toInt = 1 := by decide
    rw [e, Int.cast_one, EReal.coe_one]
  · rw [if_neg h, beq_eq_false_iff_ne.mpr h]
    have e : (BitVec.setWidth 32 (BitVec.ofBool false)).toInt = 0 := by decide
    rw [e, Int.cast_zero, EReal.coe_zero]

theorem oneh_apply (t : Fin 8) (c : Fin 4) (v : IVec S2048x1 32) (p : Fin 512) (q : Fin 256) (h : 512 * c.val + p.val < 2048) :
    oneh (F := Ideal) t c v lanes (ix2 p q) = if v (ix2 ⟨512 * c.val + p.val, h⟩ 0) = BitVec.ofNat 32 q.val + lo t then (1 : EReal) else 0 := by
  unfold oneh
  pointwise
  exact bit_float _ _

theorem segStep_apply (t : Fin 8) (c : Fin 4) (v : IVec S2048x1 32) (y : FVec Ideal S2048x512 .bf16) (S : Vec Ideal S256x512 .f32) (q : Fin 256) (j : Fin 512) :
    segStep t c v y lanes S (ix2 q j) = S (ix2 q j) + ∑ p : Fin 512, oneh (F := Ideal) t c v lanes (ix2 p q) * y (ix2 ⟨512 * c.val + p.val, by omega⟩ j) := by
  unfold segStep
  generalize oneh (F := Ideal) t c v lanes = o
  pointwise

theorem cntStep_apply (t : Fin 8) (c : Fin 4) (v : IVec S2048x1 32) (N : Vec Ideal S256x1 .f32) (q : Fin 256) :
    cntStep t c v (k0_pay194 (F := Ideal)) lanes N (ix2 q 0) = N (ix2 q 0) + ∑ p : Fin 512, oneh (F := Ideal) t c v lanes (ix2 p q) := by
  unfold cntStep k0_pay194
  generalize oneh (F := Ideal) t c v lanes = o
  pointwise

/-! ## The chunks that are passed over -/

theorem firstId_apply (v : IVec S2048x1 32) (c : Fin 4) : firstId v c = v (ix2 ⟨512 * c.val, by omega⟩ 0) := by
  unfold firstId
  refine congrArg v (funext fun a => Fin.ext ?_)
  match a with
  | ⟨0, _⟩ => rfl
  | ⟨1, _⟩ => rfl

theorem lastId_apply (v : IVec S2048x1 32) (c : Fin 4) : lastId v c = v (ix2 ⟨512 * c.val + 511, by omega⟩ 0) := by
  unfold lastId
  refine congrArg v (funext fun a => Fin.ext ?_)
  match a with
  | ⟨0, _⟩ => rfl
  | ⟨1, _⟩ => rfl

theorem meets_iff (t : Fin 8) (a b : Nat) (ha : a < 2048) (hb : b < 2048) :
    meets t (BitVec.ofNat 32 a) (BitVec.ofNat 32 b) (lo t) = 1#1 ↔ 256 * t.val ≤ b ∧ a < 256 * t.val + 256 := by
  have ht := t.isLt
  have e1 : Scalar.cmpi .sge (BitVec.ofNat 32 b) (lo t) = BitVec.ofBool (decide (256 * t.val ≤ b)) := by
    show BitVec.ofBool ((lo t).sle (BitVec.ofNat 32 b)) = _
    rw [BitVec.sle_eq_decide, toInt_small _ (by omega), toInt_small _ (by omega)]
    exact congrArg BitVec.ofBool (decide_eq_decide.mpr (by omega))
  have e2 : Scalar.cmpi .slt (BitVec.ofNat 32 a) (hi t) = BitVec.ofBool (decide (a < 256 * t.val + 256)) := by
    show BitVec.ofBool ((BitVec.ofNat 32 a).slt (hi t)) = _
    rw [BitVec.slt_eq_decide, toInt_small _ (by omega), toInt_small _ (by omega)]
    exact congrArg BitVec.ofBool (decide_eq_decide.mpr (by omega))
  unfold meets
  rw [e1, e2]
  have key : ∀ p q : Bool, Scalar.cmpi .ne (Scalar.extui (Scalar.andi (BitVec.ofBool p) (BitVec.ofBool q)) : BitVec 32) 0#32 = 1#1 ↔ p = true ∧ q = true := by decide
  rw [key, decide_eq_true_iff, decide_eq_true_iff]

section Chunks

variable (x : Vec Ideal S1x2048x1 .i32) (hx : ∀ q, word x q ≤ 1)

include hx in
theorem bid_small (p : Nat) (hp : p < 2048) : bid (word x) p < 2048 := lt_of_le_of_lt (bid_le _ hx p) hp

include hx in
theorem lane_eq (t : Fin 8) (q : Fin 256) (p : Nat) (hp : p < 2048) :
    BitVec.ofNat 32 (bid (word x) p) = BitVec.ofNat 32 q.val + lo t ↔ bid (word x) p = 256 * t.val + q.val := by
  have h := bid_small x hx p hp
  have ht := t.isLt
  have hq := q.isLt
  rw [← BitVec.toNat_inj, BitVec.toNat_add, BitVec.toNat_ofNat, BitVec.toNat_ofNat, BitVec.toNat_ofNat]
  omega

/-- What the positions of a chunk add to a segment. -/
abbrev part (f : Nat → EReal) (l : Nat) (c : Nat) : EReal := ∑ p ∈ Finset.range 512, if bid (word x) (512 * c + p) = l then f (512 * c + p) else 0

theorem part_pass (f : Nat → EReal) (t : Fin 8) (q : Fin 256) (c : Fin 4)
    (h : ¬ (256 * t.val ≤ bid (word x) (512 * c.val + 511) ∧ bid (word x) (512 * c.val) < 256 * t.val + 256)) :
    part x f (256 * t.val + q.val) c.val = 0 := by
  refine Finset.sum_eq_zero fun p hp => if_neg fun e => h ?_
  have hp' := Finset.mem_range.mp hp
  have hq := q.isLt
  have h1 : bid (word x) (512 * c.val + p) ≤ bid (word x) (512 * c.val + 511) := bid_mono _ (by omega)
  have h2 : bid (word x) (512 * c.val) ≤ bid (word x) (512 * c.val + p) := bid_mono _ (by omega)
  omega

theorem meets_loc (hx : ∀ q, word x q ≤ 1) (t : Fin 8) (c : Fin 4) :
    meets t (firstId (loc x) c) (lastId (loc x) c) (lo t) = 1#1
      ↔ 256 * t.val ≤ bid (word x) (512 * c.val + 511) ∧ bid (word x) (512 * c.val) < 256 * t.val + 256 := by
  rw [firstId_apply, lastId_apply, loc_apply, loc_apply]
  exact meets_iff t _ _ (bid_small x hx _ (by omega)) (bid_small x hx _ (by omega))

/-- A column of rows as a function of the position. -/
abbrev colOf (y : S2048x512.Idx → EReal) (j : Fin 512) (p : Nat) : EReal := if h : p < 2048 then y (ix2 ⟨p, h⟩ j) else 0

theorem segIf_apply (hx : ∀ q, word x q ≤ 1) (t : Fin 8) (c : Fin 4) (y : FVec Ideal S2048x512 .bf16) (S : FVec Ideal S256x512 .f32) (q : Fin 256) (j : Fin 512) :
    segIf (loc x) y lanes t c S (ix2 q j) = S (ix2 q j) + part x (colOf y j) (256 * t.val + q.val) c.val := by
  unfold segIf
  split
  · rw [segStep_apply, part, Finset.sum_range]
    refine congrArg (S (ix2 q j) + ·) (Finset.sum_congr rfl fun p _ => ?_)
    have hp : 512 * c.val + p.val < 2048 := by omega
    rw [oneh_apply t c _ p q hp, loc_apply]
    simp only [lane_eq x hx t q (512 * c.val + p.val) hp, colOf, dif_pos hp]
    split
    · exact one_mul _
    · exact zero_mul _
  · next h =>
    rw [part_pass x _ t q c (fun h' => h ((meets_loc x hx t c).mpr h'))]
    exact (add_zero _).symm

theorem cntIf_apply (hx : ∀ q, word x q ≤ 1) (t : Fin 8) (c : Fin 4) (N : FVec Ideal S256x1 .f32) (q : Fin 256) :
    cntIf (loc x) (k0_pay194 (F := Ideal)) lanes t c N (ix2 q 0) = N (ix2 q 0) + part x (fun _ => 1) (256 * t.val + q.val) c.val := by
  unfold cntIf
  split
  · rw [cntStep_apply, part, Finset.sum_range]
    refine congrArg (N (ix2 q 0) + ·) (Finset.sum_congr rfl fun p _ => ?_)
    have hp : 512 * c.val + p.val < 2048 := by omega
    rw [oneh_apply t c _ p q hp, loc_apply]
    simp only [lane_eq x hx t q (512 * c.val + p.val) hp]
  · next h =>
    rw [part_pass x _ t q c (fun h' => h ((meets_loc x hx t c).mpr h'))]
    exact (add_zero _).symm

/-- What the positions of a sentence add to a segment. -/
abbrev whole (f : Nat → EReal) (l : Nat) : EReal := ∑ p ∈ Finset.range 2048, if bid (word x) p = l then f p else 0

theorem whole_parts (f : Nat → EReal) (l : Nat) : whole x f l = (((0 + part x f l 0) + part x f l 1) + part x f l 2) + part x f l 3 := by
  rw [whole, show 2048 = 512 + 512 + 512 + 512 from rfl, Finset.sum_range_add, Finset.sum_range_add, Finset.sum_range_add, zero_add]
  simp only [part, Nat.mul_zero, Nat.zero_add, Nat.mul_one, Nat.reduceMul, Nat.reduceAdd]

theorem segSum_apply (hx : ∀ q, word x q ≤ 1) (t : Fin 8) (y : FVec Ideal S2048x512 .bf16) (q : Fin 256) (j : Fin 512) :
    segSum (loc x) y lanes t (ix2 q j) = whole x (colOf y j) (256 * t.val + q.val) := by
  unfold segSum
  rw [segIf_apply x hx, segIf_apply x hx, segIf_apply x hx, segIf_apply x hx, whole_parts]
  have e : k0_pay4 (F := Ideal) (ix2 q j) = 0 := by
    unfold k0_pay4
    pointwise
  rw [e]; rfl

theorem cntSum_apply (hx : ∀ q, word x q ≤ 1) (t : Fin 8) (q : Fin 256) :
    cntSum (F := Ideal) (loc x) (k0_pay194 (F := Ideal)) lanes t (ix2 q 0) = whole x (fun _ => 1) (256 * t.val + q.val) := by
  unfold cntSum
  rw [cntIf_apply x hx, cntIf_apply x hx, cntIf_apply x hx, cntIf_apply x hx, whole_parts]
  have e : k0_pay5 (F := Ideal) (ix2 q 0) = 0 := by
    unfold k0_pay5
    pointwise
  rw [e]; rfl

end Chunks

end Cert.Proof.Seg
-- ==== Proof.Ffn.lean ====
/-
  The feed-forward block and the layer norm of one row over the extended reals, as plain functions, and the two
  ways to write a quotient.
-/
module

public import Idealize.ShloMosaic.PureOps.Ideal

@[expose] public section

noncomputable section

namespace Cert.Proof.Seg

open Idealize.ShloMosaic

abbrev width : EReal := Ideal.ofBits .f32 0x44000000#32
abbrev eps : EReal := Ideal.ofBits .f32 0x3A83126F#32

/-- The feed-forward block with its residual. -/
def ffn (x : Fin 512 → EReal) (w1 : Fin 512 → Fin 2048 → EReal) (b1 : Fin 2048 → EReal) (w2 : Fin 2048 → Fin 512 → EReal) (b2 : Fin 512 → EReal) (j : Fin 512) : EReal :=
  ∑ k, max (∑ i, x i * w1 i k + b1 k) 0 * w2 k j + b2 j + x j

theorem ffn_first (x : Fin 512 → EReal) (w1 : Fin 512 → Fin 2048 → EReal) (b1 : Fin 2048 → EReal) (w2 : Fin 2048 → Fin 512 → EReal) (b2 : Fin 512 → EReal) (j : Fin 512) :
    ffn x w1 b1 w2 b2 j = x j + ∑ k, max (∑ i, x i * w1 i k + b1 k) 0 * w2 k j + b2 j := by
  rw [ffn, add_comm, ← add_assoc]

def avg (a : Fin 512 → EReal) : EReal := Ideal.div (∑ i, a i) width

def dev (a : Fin 512 → EReal) (j : Fin 512) : EReal := a j - avg a

/-- The layer norm. -/
def lnorm (a g be : Fin 512 → EReal) (j : Fin 512) : EReal :=
  Ideal.div (g j * dev a j) (Ideal.sqrt (avg (fun i => dev a i * dev a i) + eps)) + be j

/-- A row of the result from the mean of its segment. -/
def outRow (x : Fin 512 → EReal) (w1 : Fin 512 → Fin 2048 → EReal) (b1 : Fin 2048 → EReal) (w2 : Fin 2048 → Fin 512 → EReal) (b2 g be : Fin 512 → EReal) (j : Fin 512) : EReal :=
  lnorm (ffn x w1 b1 w2 b2) g be j

/-! ## Quotients -/

theorem div_one_mul (x y : EReal) (h : 1 ≤ y) : x * Ideal.div 1 y = Ideal.div x y := by
  have hy : y ≠ 0 := fun e => absurd (e ▸ h) (not_le.mpr zero_lt_one)
  rw [Ideal.div, Ideal.div, if_neg hy, if_neg hy, one_mul]

theorem mul_rsqrt (x v : EReal) (h : 0 < v) : x * Ideal.rsqrt v = Ideal.div x (Ideal.sqrt v) := by
  induction v using EReal.rec with
  | bot => exact absurd h (by simp)
  | top =>
    rw [Ideal.rsqrt_top, Ideal.sqrt_top, Ideal.div, if_neg EReal.top_ne_zero, EReal.inv_top]
  | coe r =>
    have hr : 0 < r := by exact_mod_cast h
    have hs : Real.sqrt r ≠ 0 := (Real.sqrt_pos.mpr hr).ne'
    rw [Ideal.rsqrt_coe, if_neg hr.not_gt, if_neg hr.ne', Ideal.sqrt_coe, if_neg hr.not_gt, Ideal.div_coe hs, one_div]

theorem sq_nonneg' (d : EReal) : 0 ≤ d * d := by
  rcases le_total 0 d with h | h
  · exact mul_nonneg h h
  · have h' := EReal.neg_nonneg.mpr h
    have := mul_nonneg h' h'
    rwa [EReal.neg_mul, EReal.mul_comm, EReal.neg_mul, neg_neg] at this

theorem width_eq : width = ((512 : ℝ) : EReal) := by
  simp [width, Ideal.ofBits, Ideal.ieee, -EReal.coe_mul]; norm_num

theorem eps_pos : 0 < eps := by
  simp [eps, Ideal.ofBits, Ideal.ieee, -EReal.coe_mul]

theorem avg_nonneg (a : Fin 512 → EReal) (h : ∀ i, 0 ≤ a i) : 0 ≤ avg a := by
  rw [avg, width_eq, Ideal.div_coe (by norm_num)]
  exact mul_nonneg (Finset.sum_nonneg fun i _ => h i) (by exact_mod_cast (by norm_num : (0 : ℝ) ≤ 1 / 512))

theorem var_pos (d : Fin 512 → EReal) : 0 < avg (fun i => d i * d i) + eps :=
  lt_of_lt_of_le eps_pos (le_add_of_nonneg_left (avg_nonneg _ fun i => sq_nonneg' (d i)))

/-- The layer norm with a reciprocal root for the quotient. -/
theorem lnorm_rsqrt (a g be : Fin 512 → EReal) (j : Fin 512) :
    g j * dev a j * Ideal.rsqrt (avg (fun i => dev a i * dev a i) + eps) + be j = lnorm a g be j := by
  rw [lnorm, mul_rsqrt _ _ (var_pos _)]

end Cert.Proof.Seg
-- ==== Proof.Row.lean ====
/-
  One row of the table over the extended reals: the feed-forward block and the layer norm of a segment's mean.
-/
module

public import proofs.«01_k».proof.Proof.Sums
public import proofs.«01_k».proof.Proof.Ffn

@[expose] public section

set_option maxRecDepth 16384

noncomputable section

namespace Cert.Proof.Seg

open Cert.KernelIdeal Cert.KernelIdeal.Gen
open Idealize.ShloMosaic

/-- The mean of a row of sums with its count. -/
abbrev meanRow (S : Vec Ideal S256x512 .f32) (N : Vec Ideal S256x1 .f32) (q : Fin 256) (i : Fin 512) : EReal := Ideal.div (S (ix2 q i)) (max (N (ix2 q 0)) 1)

theorem mid_apply (S : Vec Ideal S256x512 .f32) (N : Vec Ideal S256x1 .f32) (w1 : Vec Ideal S512x2048 .bf16) (b1 : Vec Ideal S1x2048 .f32) (w2 : Vec Ideal S2048x512 .bf16)
    (b2 : Vec Ideal S1x512 .f32) (q : Fin 256) (j : Fin 512) :
    k0_pay26 (F := Ideal) S N w1 b1 w2 b2 (ix2 q j)
      = dev (ffn (meanRow S N q) (fun i k => w1 (ix2 i k)) (fun k => b1 (ix2 0 k)) (fun k i => w2 (ix2 k i)) (fun i => b2 (ix2 0 i))) j := by
  unfold k0_pay26
  pointwise
  simp only [div_one_mul _ _ (le_max_right _ _), dev, avg, ffn_first]

theorem end_apply (D : FVec Ideal S256x512 .f32) (g be : Vec Ideal S1x512 .f32) (q : Fin 256) (j : Fin 512) :
    k0_pay195 (F := Ideal) D g be (ix3 0 q j)
      = g (ix2 0 j) * D (ix2 q j) * Ideal.rsqrt (avg (fun i => D (ix2 q i) * D (ix2 q i)) + eps) + be (ix2 0 j) := by
  unfold k0_pay195
  pointwise
  rfl

theorem tileOut_apply (v48 : IVec S2048x1 32) (v60 : FVec Ideal S2048x512 .bf16) (v61 : FVec Ideal S512x1 .bf16) (v62 : IVec S512x256 32)
    (w1 : Vec Ideal S512x2048 .bf16) (b1 : Vec Ideal S1x2048 .f32) (w2 : Vec Ideal S2048x512 .bf16) (b2 g be : Vec Ideal S1x512 .f32) (t : Fin 8) (q : Fin 256) (j : Fin 512) :
    tileOut v48 v60 v61 v62 w1 b1 w2 b2 g be t (ix3 0 q j)
      = outRow (meanRow (segSum v48 v60 v62 t) (cntSum v48 v61 v62 t) q) (fun i k => w1 (ix2 i k)) (fun k => b1 (ix2 0 k)) (fun k i => w2 (ix2 k i)) (fun i => b2 (ix2 0 i))
          (fun i => g (ix2 0 i)) (fun i => be (ix2 0 i)) j := by
  unfold tileOut
  rw [end_apply]
  simp only [mid_apply]
  exact lnorm_rsqrt _ (fun i => g (ix2 0 i)) (fun i => be (ix2 0 i)) j

theorem rows_apply (y : Vec Ideal S1x2048x512 .f32) (p : Fin 2048) (i : Fin 512) : k0_pay193 (F := Ideal) y (ix2 p i) = y (ix3 0 p i) := by
  unfold k0_pay193
  pointwise

/-- Column `i` of a sentence's rows as a function of the position. -/
abbrev rowCol (y : S1x2048x512.Idx → EReal) (i : Fin 512) (p : Nat) : EReal := if h : p < 2048 then y (ix3 0 ⟨p, h⟩ i) else 0

theorem rowAt_apply (x : Vec Ideal S1x2048x1 .i32) (hx : ∀ q, word x q ≤ 1) (y : Vec Ideal S1x2048x512 .f32) (w1 : Vec Ideal S512x2048 .bf16) (b1 : Vec Ideal S1x2048 .f32)
    (w2 : Vec Ideal S2048x512 .bf16) (b2 g be : Vec Ideal S1x512 .f32) (l : Fin 2048) (j : Fin 512) :
    rowAt (F := Ideal) x y w1 b1 w2 b2 g be l j
      = outRow (fun i => Ideal.div (whole x (rowCol y i) l.val) (max (whole x (fun _ => 1) l.val) 1))
          (fun i k => w1 (ix2 i k)) (fun k => b1 (ix2 0 k)) (fun k i => w2 (ix2 k i)) (fun i => b2 (ix2 0 i)) (fun i => g (ix2 0 i)) (fun i => be (ix2 0 i)) j := by
  have hl : 256 * (l.val / 256) + l.val % 256 = l.val := Nat.div_add_mod _ _
  have ey : ∀ i : Fin 512, colOf (k0_pay193 (F := Ideal) y) i = rowCol y i := fun i => by
    funext p
    unfold colOf rowCol
    split
    · exact rows_apply y _ i
    · rfl
  unfold rowAt
  rw [tileOut_apply]
  congr 1
  funext i
  rw [meanRow, segSum_apply x hx, cntSum_apply x hx, ey]
  simp only [hl]

end Cert.Proof.Seg
-- ==== Proof.RefIds.lean ====
/-
  The reference's segment numbers, and the means it gathers.
-/
module

public import proofs.«01_k».proof.Proof.RefOps
public import proofs.«01_k».proof.Proof.Gen.ReferenceIdeal.Run
public import proofs.«01_k».proof.Proof.Numbers
public import proofs.«01_k».proof.Proof.Row
public import Idealize.ShloMosaic.Lib.Pointwise
public import Idealize.ShloMosaic.Lib.Pointwise.IndexBridge
public import Idealize.ShloMosaic.Lib.ReduceAll
public import Idealize.ShloMosaic.Lib.Tactic.CleanTypes

@[expose] public section

set_option maxRecDepth 65536

noncomputable section

namespace Cert.Proof.Seg.Ref

open Cert.ReferenceIdeal Cert.ReferenceIdeal.Gen Cert.ReferenceIdeal.Value
open Idealize.ShloMosaic
open Idealize.ShloMosaic.TcCoe

/-- The words of the sentences, as numbers. -/
structure Words (W : IVec S8x2048 32) (A : Fin 8 → Nat → Nat) : Prop where
  word : ∀ (s : Fin 8) (p : Fin 2048), W (ix2 s p) = BitVec.ofNat 32 (A s p.val)
  le : ∀ s p, A s p ≤ 1

variable (V0 : Valuation τ sig (Elt Ideal)) {A : Fin 8 → Nat → Nat} (hA : Words (V0 (Proc.devRef .tc main_arg1)) A)

/-- The number of the segment that row `r` lies in. -/
abbrev gid (A : Fin 8 → Nat → Nat) (r : Fin 16384) : Nat := bid (A (sent r)) (posn r).val + (sent r).val * 2048

include hA in
theorem gid_lt (s : Fin 8) (p : Fin 2048) : bid (A s) p.val < 2048 := lt_of_le_of_lt (bid_le _ (hA.le s) p.val) p.isLt

include hA in
theorem gid_small (r : Fin 16384) : gid A r < 16384 := by
  have h1 := gid_lt V0 hA (sent r) (posn r)
  have h2 := (sent r).isLt
  show bid (A (sent r)) (posn r).val + (sent r).val * 2048 < 16384
  omega

include hA in
theorem v0_apply (s : Fin 8) (p : Fin 2048) : (res_main_v0 V0 : S8x2048.Idx → BitVec 32) (ix2 s p) = BitVec.ofNat 32 (bid (A s) p.val + A s 0) := by
  have h := cumsum_row (V0 (Proc.devRef .tc main_arg1)) (A s) s (fun q => by rw [← ix2_eq_valueIdx]; exact hA.word s q)
    (broadcastInDim S_ ![] bcast_S_S_ (constantI S_ 32 0#32)) rfl reduceWindows_S8x2048_S8x2048_w1s1p0_0_w2048s1p2047_0 h_S_ p
  rw [← ix2_eq_valueIdx] at h
  refine h.trans (congrArg (BitVec.ofNat 32) (Finset.sum_range_succ' (A s) p.val))

theorem flat_word {α : Type} (f : S8x2048.Idx → α) (r : Fin 16384) : shapeCast S16384 f shapeCasts_S8x2048_S16384 (ix1 r) = f (ix2 (sent r) (posn r)) := by
  refine shapeCast_apply f _ _ _ ?_
  rw [Shape.rowMajor_val_two, Shape.rowMajor_val_one]
  show r.val / 2048 * 2048 + r.val % 2048 = r.val
  omega

include hA in
theorem v13_apply (r : Fin 16384) : (res_main_v13 V0 : S16384.Idx → BitVec 32) (ix1 r) = BitVec.ofNat 32 (gid A r) := by
  unfold res_main_v13
  refine (flat_word _ r).trans ?_
  have h0 := v0_apply V0 hA (sent r) 0
  have hp := v0_apply V0 hA (sent r) (posn r)
  have ha := hA.le (sent r) 0
  rw [show ((0 : Fin 2048).val) = 0 from rfl, bid_zero, Nat.zero_add] at h0
  generalize res_main_v0 V0 = c at h0 hp ⊢
  clean_types
  pointwise
  rw [h0, hp]
  rcases (show A (sent r) 0 = 0 ∨ A (sent r) 0 = 1 by omega) with e | e
  · rw [e]
    show BitVec.ofNat 32 (bid (A (sent r)) (posn r).val + 0) + BitVec.ofNat 32 (r.val / 2048) * BitVec.ofNat 32 2048 = _
    rw [← BitVec.ofNat_mul, ← BitVec.ofNat_add]; rfl
  · rw [e]
    show BitVec.ofNat 32 (bid (A (sent r)) (posn r).val + 1) - 1#32 + BitVec.ofNat 32 (r.val / 2048) * BitVec.ofNat 32 2048 = _
    rw [BitVec.ofNat_add, BitVec.add_sub_cancel, ← BitVec.ofNat_mul, ← BitVec.ofNat_add]

include hA in
theorem start_apply (r : Fin 16384) : (res_main_call2_v5 V0 : S16384x1.Idx → BitVec 32) (ix2 r 0) = BitVec.ofNat 32 (gid A r) := by
  unfold res_main_call2_v5
  have h := v13_apply V0 hA r
  have hs := gid_small V0 hA r
  generalize res_main_v13 V0 = c at h ⊢
  clean_types
  pointwise
  rw [h]
  have e : IntOp.cmpi .slt (BitVec.ofNat 32 (gid A r)) 0#32 = 0#1 := by
    have : (BitVec.ofNat 32 (gid A r)).slt 0#32 = false := by
      rw [BitVec.slt_eq_decide, toInt_small _ (by omega)]
      exact decide_eq_false (by show ¬ ((gid A r : Int) < 0); omega)
    show BitVec.ofBool _ = _
    rw [this]; rfl
  rw [e]; rfl

/-! ## The sum over a segment -/

/-- Row `p` of sentence `s` in the flattened array. -/
abbrev row (s : Fin 8) (p : Fin 2048) : Fin 16384 := ⟨p.val + 2048 * s.val, by have := s.isLt; have := p.isLt; omega⟩

theorem sent_row (s : Fin 8) (p : Fin 2048) : sent (row s p) = s := Fin.ext (by show (p.val + 2048 * s.val) / 2048 = s.val; have := p.isLt; omega)
theorem posn_row (s : Fin 8) (p : Fin 2048) : posn (row s p) = p := Fin.ext (by show (p.val + 2048 * s.val) % 2048 = p.val; have := p.isLt; omega)

include hA in
theorem sum_own (f : Fin 16384 → EReal) (s : Fin 8) (p : Fin 2048) :
    (∑ i : Fin 16384, if gid A i = gid A (row s p) then f i else 0)
      = ∑ q : Fin 2048, if bid (A s) q.val = bid (A s) p.val then f (row s q) else 0 := by
  have hr : gid A (row s p) = bid (A s) p.val + s.val * 2048 := by unfold gid; rw [sent_row, posn_row]
  have hp := gid_lt V0 hA s p
  have hw (t : Fin 8) (q : Fin 2048) : gid A (row t q) = bid (A t) q.val + t.val * 2048 := by unfold gid; rw [sent_row, posn_row]
  rw [hr]
  refine (Equiv.sum_comp (finProdFinEquiv (m := 8) (n := 2048)) (fun i : Fin 16384 => if gid A i = bid (A s) p.val + s.val * 2048 then f i else 0)).symm.trans ?_
  rw [Fintype.sum_prod_type, Finset.sum_eq_single s]
  · refine Finset.sum_congr rfl fun q _ => ?_
    show (if gid A (row s q) = _ then f (row s q) else 0) = _
    rw [hw]
    refine if_congr ?_ rfl rfl
    omega
  · intro t _ ht
    refine Finset.sum_eq_zero fun q _ => ?_
    show (if gid A (row t q) = _ then f (row t q) else 0) = _
    have hq := gid_lt V0 hA t q
    rw [hw]
    refine if_neg fun e => ht (Fin.ext ?_)
    omega
  · intro h; exact absurd (Finset.mem_univ s) h

/-! ## The means -/

/-- The sum of `f` over the segment that position `p` of sentence `s` lies in. -/
abbrev own (A : Fin 8 → Nat → Nat) (s : Fin 8) (p : Fin 2048) (f : Fin 2048 → EReal) : EReal := ∑ q : Fin 2048, if bid (A s) q.val = bid (A s) p.val then f q else 0

theorem flat_out {α : Type} (f : S16384x512.Idx → α) (s : Fin 8) (p : Fin 2048) (j : Fin 512) :
    shapeCast S8x2048x512 f shapeCasts_S16384x512_S8x2048x512 (ix3 s p j) = f (ix2 (row s p) j) := by
  refine shapeCast_apply f _ _ _ ?_
  rw [Shape.rowMajor_val_two, Shape.rowMajor_val_three]
  show (p.val + 2048 * s.val) * 512 + j.val = (s.val * 2048 + p.val) * 512 + j.val
  omega

include hA in
theorem mask_apply (r : Fin 16384) :
    Host.reduce IntOp.andi (andi (cmpi .sge (res_main_call2_v5 V0 : S16384x1.Idx → BitVec 32) (broadcastInDim S16384x1 ![] bcast_S_S16384x1 (constantI S_ 32 0#32)))
      (cmpi .sle (res_main_call2_v5 V0 : S16384x1.Idx → BitVec 32) (broadcastInDim S16384x1 ![0, 1] bcast_S1x1_S16384x1_0_1 (broadcastInDim S1x1 ![1] bcast_S1_S1x1_1 (constantI S1 32 16383#32)))))
      (constantI S_ 1 1#1) reducesTo_S16384x1_S16384_d1 h_S_ (ix1 r) = 1#1 := by
  refine Host.reduce_andi_one _ _ _ _ _ rfl fun k => ?_
  obtain ⟨r, q, rfl⟩ : ∃ (r : Fin 16384) (q : Fin 1), k = ix2 r q := ⟨k 0, k 1, eq_ix2 (n0 := 16384) (n1 := 1) k⟩
  obtain rfl : q = 0 := Subsingleton.elim _ _
  have h := start_apply V0 hA r
  have hs := gid_small V0 hA r
  generalize res_main_call2_v5 V0 = c at h ⊢
  pointwise
  rw [h]
  have t := toInt_small (gid A r) (by omega)
  have e1 : IntOp.cmpi .sge (BitVec.ofNat 32 (gid A r)) 0#32 = 1#1 := by
    have : (0#32).sle (BitVec.ofNat 32 (gid A r)) = true := by
      rw [BitVec.sle_eq_decide, t]
      exact decide_eq_true (by show ((0 : Int) ≤ gid A r); omega)
    show BitVec.ofBool _ = _
    rw [this]; rfl
  have e2 : IntOp.cmpi .sle (BitVec.ofNat 32 (gid A r)) 16383#32 = 1#1 := by
    have : (BitVec.ofNat 32 (gid A r)).sle 16383#32 = true := by
      rw [BitVec.sle_eq_decide, t]
      exact decide_eq_true (by show ((gid A r : Int) ≤ 16383); omega)
    show BitVec.ofBool _ = _
    rw [this]; rfl
  rw [e1, e2]; rfl

theorem pick_apply (M : S16384.Idx → BitVec 1) (G N : FVec Ideal S16384x512 .f32) (r : Fin 16384) (j : Fin 512) (hM : M (ix1 r) = 1#1) :
    select (broadcastInDim S16384x512 ![0] bcast_S16384_S16384x512_0 M) G N (ix2 r j) = G (ix2 r j) := by
  pointwise
  rw [hM]; rfl

theorem mean_apply (S : FVec Ideal S16384x512 .f32) (N : FVec Ideal S16384 .f32) (r : Fin 16384) (j : Fin 512) :
    Host.divf S (broadcastInDim S16384x512 ![0, 1] bcast_S16384x1_S16384x512_0_1 (broadcastInDim S16384x1 ![0] bcast_S16384_S16384x1_0
      (maximumf N (broadcastInDim S16384 ![] bcast_S_S16384 (constant (F := Ideal) S_ .f32 0x3F800000#32))))) (ix2 r j)
      = Ideal.div (S (ix2 r j)) (max (N (ix1 r)) 1) := by
  pointwise

include hA in
/-- The column of segment numbers that both scatters read. -/
theorem col_apply (r : Fin 16384) :
    (broadcastInDim S16384x1 ![0] bcast_S16384_S16384x1_0 (res_main_v13 V0 : S16384.Idx → BitVec 32) (ix2 r 0)).toInt = gid A r := by
  have h := v13_apply V0 hA r
  have hs := gid_small V0 hA r
  generalize res_main_v13 V0 = c at h ⊢
  have e : broadcastInDim S16384x1 ![0] bcast_S16384_S16384x1_0 (c : S16384.Idx → BitVec 32) (ix2 r 0) = c (ix1 r) := by pointwise
  rw [e, h]
  exact toInt_small _ (by omega)

include hA in
theorem sums_apply (y : FVec Ideal S16384x512 .f32) (s : Fin 8) (p : Fin 2048) (j : Fin 512) :
    Host.scatterAdd scatter_S16384x512_S16384x1_S16384x512_1_0_0_1 (broadcastInDim S16384x512 ![] bcast_S_S16384x512 (constant (F := Ideal) S_ .f32 0x00000000#32))
      (broadcastInDim S16384x1 ![0] bcast_S16384_S16384x1_0 (res_main_v13 V0)) y (ix2 ⟨gid A (row s p), gid_small V0 hA _⟩ j)
      = own A s p fun q => y (ix2 (row s q) j) := by
  have h := scatter_rows (broadcastInDim S16384x512 ![] bcast_S_S16384x512 (constant (F := Ideal) S_ .f32 0x00000000#32))
    (broadcastInDim S16384x1 ![0] bcast_S16384_S16384x1_0 (res_main_v13 V0)) y ⟨gid A (row s p), gid_small V0 hA _⟩ j
  simp only [← ix2_eq_valueIdx] at h
  refine h.trans ((congrArg₂ (· + ·) ?_ (Finset.sum_congr rfl fun i _ => if_congr ?_ rfl rfl)).trans ((zero_add _).trans (sum_own V0 hA (fun i => y (ix2 i j)) s p)))
  · pointwise
  · rw [col_apply V0 hA i]; exact Int.natCast_inj

include hA in
theorem counts_apply (s : Fin 8) (p : Fin 2048) :
    Host.scatterAdd scatter_S16384_S16384x1_S16384_n_0_0_1 (broadcastInDim S16384 ![] bcast_S_S16384 (constant (F := Ideal) S_ .f32 0x00000000#32))
      (broadcastInDim S16384x1 ![0] bcast_S16384_S16384x1_0 (res_main_v13 V0)) (broadcastInDim S16384 ![] bcast_S_S16384 (constant (F := Ideal) S_ .f32 0x3F800000#32))
      (ix1 ⟨gid A (row s p), gid_small V0 hA _⟩)
      = own A s p fun _ => 1 := by
  have h := scatter_ones (broadcastInDim S16384 ![] bcast_S_S16384 (constant (F := Ideal) S_ .f32 0x00000000#32))
    (broadcastInDim S16384x1 ![0] bcast_S16384_S16384x1_0 (res_main_v13 V0)) (broadcastInDim S16384 ![] bcast_S_S16384 (constant (F := Ideal) S_ .f32 0x3F800000#32))
    ⟨gid A (row s p), gid_small V0 hA _⟩
  simp only [← ix2_eq_valueIdx, ← ix1_eq_valueIdx] at h
  refine h.trans ((congrArg₂ (· + ·) ?_ (Finset.sum_congr rfl fun i _ => if_congr ?_ ?_ rfl)).trans ((zero_add _).trans (sum_own V0 hA (fun _ => 1) s p)))
  · pointwise
  · rw [col_apply V0 hA i]; exact Int.natCast_inj
  · pointwise

theorem flat_in {α : Type} (f : S8x2048x512.Idx → α) (s : Fin 8) (p : Fin 2048) (j : Fin 512) :
    shapeCast S16384x512 f shapeCasts_S8x2048x512_S16384x512 (ix2 (row s p) j) = f (ix3 s p j) := by
  refine shapeCast_apply f _ _ _ ?_
  rw [Shape.rowMajor_val_two, Shape.rowMajor_val_three]
  show (s.val * 2048 + p.val) * 512 + j.val = (p.val + 2048 * s.val) * 512 + j.val
  omega

include hA in
/-- The mean of the segment a position lies in. -/
theorem v28_apply (s : Fin 8) (p : Fin 2048) (j : Fin 512) :
    (res_main_v28 V0 : S8x2048x512.Idx → EReal) (ix3 s p j)
      = Ideal.div (own A s p fun q => (V0 (Proc.devRef .tc main_arg0) : S8x2048x512.Idx → EReal) (ix3 s q j)) (max (own A s p fun _ => 1) 1) := by
  unfold res_main_v28
  refine (flat_out _ s p j).trans ((pick_apply _ _ _ (row s p) j (mask_apply V0 hA (row s p))).trans ?_)
  have hb := start_apply V0 hA (row s p)
  rw [ix2_eq_valueIdx] at hb ⊢
  refine (Routing.gather_row gather_S16384x512_S16384x1_S16384x512_1_0_n_n_0_1_1512 rfl rfl rfl rfl rfl _ (res_main_call2_v5 V0) (row s p) j ⟨gid A (row s p), gid_small V0 hA _⟩ hb (by decide)).trans ?_
  rw [← ix2_eq_valueIdx]
  refine (mean_apply _ _ _ j).trans (congrArg₂ (fun a b => Ideal.div a (max b 1)) ((sums_apply V0 hA _ s p j).trans ?_) (counts_apply V0 hA s p))
  exact Finset.sum_congr rfl fun q _ => if_congr Iff.rfl (flat_in _ s q j) rfl

end Cert.Proof.Seg.Ref
-- ==== Proof.RefFfn.lean ====
/-
  The reference's feed-forward block at an index.
-/
module

public import proofs.«01_k».proof.Proof.RefIds

@[expose] public section

set_option maxRecDepth 65536

noncomputable section

namespace Cert.Proof.Seg.Ref

open Cert.ReferenceIdeal Cert.ReferenceIdeal.Gen Cert.ReferenceIdeal.Value
open Idealize.ShloMosaic
open Idealize.ShloMosaic.TcCoe

variable (V0 : Valuation τ sig (Elt Ideal)) {A : Fin 8 → Nat → Nat} (hA : Words (V0 (Proc.devRef .tc main_arg1)) A)

/-- The feed-forward block over all positions. -/
abbrev block (X : FVec Ideal S8x2048x512 .f32) (w1 : FVec Ideal S512x2048 .f32) (b1 : FVec Ideal S2048 .f32) (w2 : FVec Ideal S2048x512 .f32) (b2 : FVec Ideal S512 .f32) :
    FVec Ideal S8x2048x512 .f32 :=
  addf (addf (Host.dotGeneral dot_S8x2048x2048_S2048x512_S8x2048x512_2_0_01_1_n_n none
    (maximumf (addf (Host.dotGeneral dot_S8x2048x512_S512x2048_S8x2048x2048_2_0_01_1_n_n none X w1)
      (broadcastInDim S8x2048x2048 ![0, 1, 2] bcast_S1x1x2048_S8x2048x2048_0_1_2 (broadcastInDim S1x1x2048 ![2] bcast_S2048_S1x1x2048_2 b1)))
      (broadcastInDim S8x2048x2048 ![] bcast_S_S8x2048x2048 (constant S_ .f32 0x00000000#32))) w2)
    (broadcastInDim S8x2048x512 ![0, 1, 2] bcast_S1x1x512_S8x2048x512_0_1_2 (broadcastInDim S1x1x512 ![2] bcast_S512_S1x1x512_2 b2))) X

theorem block_apply (X : FVec Ideal S8x2048x512 .f32) (w1 : FVec Ideal S512x2048 .f32) (b1 : FVec Ideal S2048 .f32) (w2 : FVec Ideal S2048x512 .f32) (b2 : FVec Ideal S512 .f32)
    (s : Fin 8) (p : Fin 2048) (j : Fin 512) :
    block X w1 b1 w2 b2 (ix3 s p j) = ffn (fun i => X (ix3 s p i)) (fun i k => w1 (ix2 i k)) (fun k => b1 (ix1 k)) (fun k i => w2 (ix2 k i)) (fun i => b2 (ix1 i)) j := by
  pointwise
  unfold ffn
  pointwise

theorem v39_apply (s : Fin 8) (p : Fin 2048) (j : Fin 512) :
    (res_main_v39 V0 : S8x2048x512.Idx → EReal) (ix3 s p j)
      = ffn (fun i => (res_main_v28 V0 : S8x2048x512.Idx → EReal) (ix3 s p i)) (fun i k => (V0 (Proc.devRef .tc main_arg2) : S512x2048.Idx → EReal) (ix2 i k))
          (fun k => (V0 (Proc.devRef .tc main_arg3) : S2048.Idx → EReal) (ix1 k)) (fun k i => (V0 (Proc.devRef .tc main_arg4) : S2048x512.Idx → EReal) (ix2 k i))
          (fun i => (V0 (Proc.devRef .tc main_arg5) : S512.Idx → EReal) (ix1 i)) j := by
  unfold res_main_v39
  exact block_apply _ _ _ _ _ s p j

end Cert.Proof.Seg.Ref
-- ==== Proof.RefValue.lean ====
/-
  The reference's layer norm at an index.
-/
module

public import proofs.«01_k».proof.Proof.RefFfn

@[expose] public section

set_option maxRecDepth 65536

noncomputable section

namespace Cert.Proof.Seg.Ref

open Cert.ReferenceIdeal Cert.ReferenceIdeal.Gen Cert.ReferenceIdeal.Value
open Idealize.ShloMosaic
open Idealize.ShloMosaic.TcCoe

variable (V0 : Valuation τ sig (Elt Ideal)) {A : Fin 8 → Nat → Nat} (hA : Words (V0 (Proc.devRef .tc main_arg1)) A)

/-- The deviations from the means of the rows. -/
abbrev devs (Y : FVec Ideal S8x2048x512 .f32) : FVec Ideal S8x2048x512 .f32 :=
  subf Y (broadcastInDim S8x2048x512 ![0, 1, 2] bcast_S8x2048x1_S8x2048x512_0_1_2
    (Host.divf (broadcastInDim S8x2048x1 ![0, 1] bcast_S8x2048_S8x2048x1_0_1 (Host.reduceAdd Y (constant S_ .f32 0x00000000#32) reducesTo_S8x2048x512_S8x2048_d2 h_S_))
      (broadcastInDim S8x2048x1 ![] bcast_S_S8x2048x1 (constant S_ .f32 0x44000000#32))))

theorem devs_apply (Y : FVec Ideal S8x2048x512 .f32) (s : Fin 8) (p : Fin 2048) (j : Fin 512) : devs Y (ix3 s p j) = dev (fun i => Y (ix3 s p i)) j := by
  pointwise
  unfold dev avg
  pointwise

/-- The layer norm over all positions, from the block's rows, their deviations and the divisor of the variance. -/
abbrev normed (Y D : FVec Ideal S8x2048x512 .f32) (v : FVec Ideal S_ .f32) (g be : FVec Ideal S512 .f32) : FVec Ideal S8x2048x512 .f32 :=
  addf (Host.divf (mulf (broadcastInDim S8x2048x512 ![0, 1, 2] bcast_S1x1x512_S8x2048x512_0_1_2 (broadcastInDim S1x1x512 ![2] bcast_S512_S1x1x512_2 g)) (devs Y))
    (broadcastInDim S8x2048x512 ![0, 1, 2] bcast_S8x2048x1_S8x2048x512_0_1_2 (Host.sqrt (addf
      (select (broadcastInDim S8x2048x1 ![] bcast_S_S8x2048x1 (cmpf .ogt v (constant S_ .f32 0x00000000#32)))
        (Host.divf (broadcastInDim S8x2048x1 ![0, 1] bcast_S8x2048_S8x2048x1_0_1 (Host.reduceAdd (mulf D D) (constant S_ .f32 0x00000000#32) reducesTo_S8x2048x512_S8x2048_d2 h_S_))
          (broadcastInDim S8x2048x1 ![] bcast_S_S8x2048x1 v))
        (broadcastInDim S8x2048x1 ![] bcast_S_S8x2048x1 (id (constant S_ .f32 0x7FC00000#32))))
      (broadcastInDim S8x2048x1 ![] bcast_S_S8x2048x1 (constant S_ .f32 0x3A83126F#32))))))
    (broadcastInDim S8x2048x512 ![0, 1, 2] bcast_S1x1x512_S8x2048x512_0_1_2 (broadcastInDim S1x1x512 ![2] bcast_S512_S1x1x512_2 be))

theorem v8_eq : res_main_call3_v8 V0 = fun _ => width := by
  funext k
  unfold res_main_call3_v8
  show Ideal.ofBits FTy.f32 1140850688#32 - ((((0#32).toInt : ℝ)) : EReal) = width
  rw [BitVec.toInt_zero, Int.cast_zero, EReal.coe_zero, sub_zero]

theorem width_pos : (0 : EReal) < width := by
  rw [width_eq]; exact_mod_cast (by norm_num : (0:ℝ) < 512)

theorem normed_apply (Y : FVec Ideal S8x2048x512 .f32) (g be : FVec Ideal S512 .f32) (s : Fin 8) (p : Fin 2048) (j : Fin 512) :
    normed Y (devs Y) (fun _ => width) g be (ix3 s p j) = lnorm (fun i => Y (ix3 s p i)) (fun i => g (ix1 i)) (fun i => be (ix1 i)) j := by
  have hd := devs_apply Y s p
  generalize devs Y = D at hd ⊢
  pointwise
  simp only [hd]
  rw [if_pos width_pos]
  unfold lnorm avg
  rfl

/-- The result at position `p` of sentence `s`, column `j`: the row of the mean of the position's segment. -/
def spec (A : Fin 8 → Nat → Nat) (a0 : FVec Ideal S8x2048x512 .f32) (a2 : FVec Ideal S512x2048 .f32) (a3 : FVec Ideal S2048 .f32) (a4 : FVec Ideal S2048x512 .f32)
    (a5 a6 a7 : FVec Ideal S512 .f32) (s : Fin 8) (p : Fin 2048) (j : Fin 512) : EReal :=
  outRow (fun i => Ideal.div (own A s p fun q => a0 (ix3 s q i)) (max (own A s p fun _ => 1) 1)) (fun i k => a2 (ix2 i k)) (fun k => a3 (ix1 k)) (fun k i => a4 (ix2 k i))
    (fun i => a5 (ix1 i)) (fun i => a6 (ix1 i)) (fun i => a7 (ix1 i)) j

include hA in
theorem value_apply (s : Fin 8) (p : Fin 2048) (j : Fin 512) :
    normed (res_main_v39 V0) (res_main_call3_v5 V0) (res_main_call3_v8 V0) (V0 (Proc.devRef .tc main_arg6)) (V0 (Proc.devRef .tc main_arg7)) (ix3 s p j)
      = spec A (V0 (Proc.devRef .tc main_arg0)) (V0 (Proc.devRef .tc main_arg2)) (V0 (Proc.devRef .tc main_arg3)) (V0 (Proc.devRef .tc main_arg4)) (V0 (Proc.devRef .tc main_arg5))
          (V0 (Proc.devRef .tc main_arg6)) (V0 (Proc.devRef .tc main_arg7)) s p j := by
  rw [v8_eq]
  refine (normed_apply (res_main_v39 V0) _ _ s p j).trans (congrArg (fun a => lnorm a _ _ j) (funext fun i => (v39_apply V0 s p i).trans ?_))
  exact congrArg (fun x => ffn x _ _ _ _ i) (funext fun k => v28_apply V0 hA s p k)

end Cert.Proof.Seg.Ref
-- ==== Proof.KerValue.lean ====
/-
  The kernel's result at an index.
-/
module

public import proofs.«01_k».proof.Proof.RefValue

@[expose] public section

set_option maxRecDepth 65536

noncomputable section

namespace Cert.Proof.Seg

open Cert.KernelIdeal Cert.KernelIdeal.Gen
open Idealize.ShloMosaic
open Idealize.ShloMosaic.TcCoe
open Ref (row sent_row posn_row flat_out own spec)

variable (m : (ℓ : Loc nD τ sig) → Buf (Elt Ideal) ℓ)

theorem w1_apply (d : Dev nD) (s : Fin 8) (i : Fin 512) (k : Fin 2048) :
    w1Blk (Wm m) d (point s) (ix2 i k) = (m (d, rf main_arg2) : S512x2048.Idx → EReal) (ix2 i k) := by
  rw [show w1Blk (Wm m) d (point s) = _ from (read2 s _).trans (Wm_v1 m d)]
  pointwise

theorem w2_apply (d : Dev nD) (s : Fin 8) (k : Fin 2048) (i : Fin 512) :
    w2Blk (Wm m) d (point s) (ix2 k i) = (m (d, rf main_arg4) : S2048x512.Idx → EReal) (ix2 k i) := by
  rw [show w2Blk (Wm m) d (point s) = _ from (read4 s _).trans (Wm_v2 m d)]
  pointwise

theorem b1_apply (d : Dev nD) (s : Fin 8) (k : Fin 2048) : b1Blk (Wm m) d (point s) (ix2 0 k) = (m (d, rf main_arg3) : S2048.Idx → EReal) (ix1 k) := by
  rw [show b1Blk (Wm m) d (point s) = _ from (read3 s _).trans (Wm_v3 m d)]
  pointwise

theorem b2_apply (d : Dev nD) (s : Fin 8) (i : Fin 512) : b2Blk (Wm m) d (point s) (ix2 0 i) = (m (d, rf main_arg5) : S512.Idx → EReal) (ix1 i) := by
  rw [show b2Blk (Wm m) d (point s) = _ from (read5 s _).trans (Wm_v4 m d)]
  pointwise

theorem g_apply (d : Dev nD) (s : Fin 8) (i : Fin 512) : gBlk (Wm m) d (point s) (ix2 0 i) = (m (d, rf main_arg6) : S512.Idx → EReal) (ix1 i) := by
  rw [show gBlk (Wm m) d (point s) = _ from (read6 s _).trans (Wm_v5 m d)]
  pointwise

theorem be_apply (d : Dev nD) (s : Fin 8) (i : Fin 512) : beBlk (Wm m) d (point s) (ix2 0 i) = (m (d, rf main_arg7) : S512.Idx → EReal) (ix1 i) := by
  rw [show beBlk (Wm m) d (point s) = _ from (read7 s _).trans (Wm_v6 m d)]
  pointwise

theorem outRow_weights (x : Fin 512 → EReal) {w1 w1' : Fin 512 → Fin 2048 → EReal} {b1 b1' : Fin 2048 → EReal} {w2 w2' : Fin 2048 → Fin 512 → EReal}
    {b2 b2' g g' be be' : Fin 512 → EReal} (h1 : ∀ i k, w1 i k = w1' i k) (h2 : ∀ k, b1 k = b1' k) (h3 : ∀ k i, w2 k i = w2' k i) (h4 : ∀ i, b2 i = b2' i)
    (h5 : ∀ i, g i = g' i) (h6 : ∀ i, be i = be' i) (j : Fin 512) : outRow x w1 b1 w2 b2 g be j = outRow x w1' b1' w2' b2' g' be' j := by
  rw [funext₂ h1, funext h2, funext₂ h3, funext h4, funext h5, funext h6]

/-- The sentences' words as numbers. -/
abbrev nums (d : Dev nD) (s : Fin 8) : Nat → Nat := word (xs m d s)

theorem outV_row (d : Dev nD) (s : Fin 8) (p : Fin 2048) (j : Fin 512) :
    outV m d (ix2 (row s p) j) = rowAt (xs m d s) (ys m d s) (w1Blk (Wm m) d (point s)) (b1Blk (Wm m) d (point s)) (w2Blk (Wm m) d (point s)) (b2Blk (Wm m) d (point s))
      (gBlk (Wm m) d (point s)) (beBlk (Wm m) d (point s)) ⟨seg m d s p.val % 2048, Nat.mod_lt _ (by decide)⟩ j := by
  show rowAt (xs m d (sent (row s p))) (ys m d (sent (row s p))) (w1Blk (Wm m) d (point (sent (row s p)))) (b1Blk (Wm m) d (point (sent (row s p))))
    (w2Blk (Wm m) d (point (sent (row s p)))) (b2Blk (Wm m) d (point (sent (row s p)))) (gBlk (Wm m) d (point (sent (row s p)))) (beBlk (Wm m) d (point (sent (row s p))))
    ⟨seg m d (sent (row s p)) (posn (row s p)).val % 2048, Nat.mod_lt _ (by decide)⟩ j = _
  rw [sent_row, posn_row]

variable {m} in
theorem res_apply (hb : Binary m) (d : Dev nD) (s : Fin 8) (p : Fin 2048) (j : Fin 512) :
    res (outV m) d (ix3 s p j) = spec (nums m d) (m (d, rf main_arg0)) (m (d, rf main_arg2)) (m (d, rf main_arg3)) (m (d, rf main_arg4)) (m (d, rf main_arg5)) (m (d, rf main_arg6))
      (m (d, rf main_arg7)) s p j := by
  unfold res
  refine (flat_out (outV m d) s p j).trans ((outV_row m d s p j).trans ?_)
  rw [rowAt_apply _ (word_le hb d s)]
  have hs : seg m d s p.val % 2048 = seg m d s p.val := Nat.mod_eq_of_lt (seg_lt hb d s p)
  have e0 (i : Fin 512) : whole (xs m d s) (rowCol (ys m d s) i) (seg m d s p.val % 2048) = own (nums m d) s p fun q => (m (d, rf main_arg0) : S8x2048x512.Idx → EReal) (ix3 s q i) := by
    rw [whole, hs, Finset.sum_range]
    refine Finset.sum_congr rfl fun q _ => if_congr Iff.rfl ?_ rfl
    rw [rowCol, dif_pos q.isLt]
    exact ys_apply m d s q i
  have e1 : whole (xs m d s) (fun _ => 1) (seg m d s p.val % 2048) = own (nums m d) s p fun _ => 1 := by
    rw [whole, hs, Finset.sum_range]
  unfold spec
  simp only [e0, e1]
  exact outRow_weights _ (w1_apply m d s) (b1_apply m d s) (w2_apply m d s) (b2_apply m d s) (g_apply m d s) (be_apply m d s) j

end Cert.Proof.Seg
-- ==== Proof.Algebra.lean ====
/-
  The kernel and the reference leave the same result over the extended reals.
-/
module

public import proofs.«01_k».proof.Proof.Frames
public import proofs.«01_k».proof.Proof.KerValue

@[expose] public section

set_option maxRecDepth 65536

noncomputable section

namespace Cert.Proof.Seg

open Cert.KernelIdeal Cert.KernelIdeal.Gen
open Idealize.ShloMosaic
open Idealize.ShloMosaic.TcCoe
open Idealize.SL.Sem

attribute [local instance] pre_facts

theorem out_mem : rf main_v11 ∈ endRefs := Finset.mem_image_of_mem _ (Finset.mem_insert_self _ _)

theorem VF_out (m : (ℓ : Loc nD τ sig) → Buf (Elt Ideal) ℓ) (outV) (d : Dev nD) : VF m outV d (rf main_v11) = res outV d := Function.update_self ..

variable {m : (ℓ : Loc nD τ sig) → Buf (Elt Ideal) ℓ}

theorem words (hb : Binary m) (d : Dev nD) : Ref.Words (m (d, rf main_arg1) : S8x2048.Idx → BitVec 32) (nums m d) where
  word s p := by
    have e : word (xs m d s) p.val = ((m (d, rf main_arg1) : S8x2048.Idx → BitVec 32) (ix2 s p)).toNat := by
      rw [word, dif_pos p.isLt]
      exact congrArg BitVec.toNat (xs_apply m d s p)
    rw [nums, e, BitVec.ofNat_toNat, BitVec.setWidth_eq]
  le s p := word_le hb d s p

theorem spec_congr (A : Fin 8 → Nat → Nat) {a0 b0 : FVec Ideal S8x2048x512 .f32} {a2 b2 : FVec Ideal S512x2048 .f32} {a3 b3 : FVec Ideal S2048 .f32}
    {a4 b4 : FVec Ideal S2048x512 .f32} {a5 b5 a6 b6 a7 b7 : FVec Ideal S512 .f32} (h0 : a0 = b0) (h2 : a2 = b2) (h3 : a3 = b3) (h4 : a4 = b4) (h5 : a5 = b5) (h6 : a6 = b6)
    (h7 : a7 = b7) (s : Fin 8) (p : Fin 2048) (j : Fin 512) : Ref.spec A a0 a2 a3 a4 a5 a6 a7 s p j = Ref.spec A b0 b2 b3 b4 b5 b6 b7 s p j := by
  rw [h0, h2, h3, h4, h5, h6, h7]

theorem algebra : Cert.algebraic_KernelIdeal_ReferenceIdeal := fun m g m' g' hpre harg => by
  have hb : Binary (F := Ideal) m := fun d s p => binary_of_fn _ _ _ _ _ _ _ _ (hpre d) (ix2 s p)
  refine ⟨fun c => res (outV m) c, ?_, ?_⟩
  · exact (θ_run Cert.KernelIdeal.defs _ _).mono
      (fun _ h c => ⟨(h.1 c _ out_mem).trans (VF_out m _ c), QC_arg h c (by decide), QC_arg h c (by decide), QC_arg h c (by decide), QC_arg h c (by decide), QC_arg h c (by decide),
        QC_arg h c (by decide), QC_arg h c (by decide), QC_arg h c (by decide)⟩)
      (run_main (F := Ideal) m g (idsV m) (outV m) (numbers hb))
  · refine (θ_run Cert.ReferenceIdeal.defs _ _).mono (fun _ h c => ⟨(h c).1.trans ?_, (h c).2⟩) (Cert.ReferenceIdeal.Value.run (F := Ideal) m' g')
    obtain ⟨e0, e1, e2, e3, e4, e5, e6, e7⟩ := harg c
    funext x
    obtain ⟨s, p, j, rfl⟩ : ∃ (s : Fin 8) (p : Fin 2048) (j : Fin 512), x = ix3 s p j := ⟨x 0, x 1, x 2, eq_ix3 (n0 := 8) (n1 := 2048) (n2 := 512) x⟩
    have hw : Ref.Words (StableHlo.launchContents m' c (Proc.devRef .tc Cert.ReferenceIdeal.main_arg1)) (nums m c) := (e1 ▸ words hb c :)
    refine (Ref.value_apply _ hw s p j).trans ?_
    exact (spec_congr _ e0 e2 e3 e4 e5 e6 e7 s p j).trans (res_apply hb c s p j).symm

end Cert.Proof.Seg
-- ==== Proof.RefRun.lean ====
/-
  The reference's frame: its run leaves the arguments as they were, and it has no semaphore.
-/
module

public import proofs.«01_k».proof.Defs
public import proofs.«01_k».proof.Proof.Gen.ReferenceIdeal.Run

@[expose] public section

noncomputable section

namespace Cert.Proof.Seg

open Idealize.ShloMosaic
open Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_binary [Cert.Pre_chords_binary.Facts] : Cert.quiescent_ReferenceIdeal_pre_chords_binary := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Seg
-- ==== Proof.lean ====
/-
  The proof of the certificate's claims.
-/
module

public import proofs.«01_k».proof.Defs
public import proofs.«01_k».proof.Proof.Algebra
public import proofs.«01_k».proof.Proof.RefRun

@[expose] public section

noncomputable section

namespace Cert.Proof

theorem claim : Cert.Claim :=
  ⟨Cert.Kernel.Gen.facts, Cert.KernelIdeal.Gen.facts, Cert.ReferenceIdeal.Gen.facts, Seg.pre_facts,
    Seg.frame_bits, Seg.frame_ideal, Seg.frame_reference,
    @Seg.frame_reference_binary Seg.pre_facts, trivial, Seg.algebra⟩

end Cert.Proof

end
